-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_qk_finite [hPre_qk_finite : Cert.Pre_qk_finite.Facts] (m : (ℓ : Loc Cert.KernelIdeal.nD Cert.KernelIdeal.τ Cert.KernelIdeal.sig) → Buf (Elt Ideal) ℓ) : Prop :=
  ∀ c : Dev Cert.KernelIdeal.nD,
    (Cert.Pre_qk_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_qk_finite [hPre_qk_finite : Cert.Pre_qk_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_qk_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Experts [hPre_tables_named : Cert.Pre_tables_named.Facts] (m : (ℓ : Loc Cert.Experts.nD Cert.Experts.τ Cert.Experts.sig) → Buf (Elt Bits) ℓ) : Prop :=
  ∀ c : Dev Cert.Experts.nD,
    (Cert.Pre_tables_named.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))) = (fun _ => 1#1)

def Pre_ExpertsIdeal [hPre_tables_named : Cert.Pre_tables_named.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables_named.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_tables_named [hPre_tables_named : Cert.Pre_tables_named.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tables_named.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7)) (m ((c.tc : Thread Cert.ExpertsReferenceIdeal.nD Cert.ExpertsReferenceIdeal.τ).loc Cert.ExpertsReferenceIdeal.main_arg8))) = (fun _ => 1#1)

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInReferenceIdeal (m : (ℓ : Loc Cert.ConvInReferenceIdeal.nD Cert.ConvInReferenceIdeal.τ Cert.ConvInReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_qk_finite [hKernelIdeal : Cert.KernelIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_qk_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_qk_finite [hReferenceIdeal : Cert.ReferenceIdeal.Facts] [hPre_qk_finite : Cert.Pre_qk_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_qk_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Experts [hExperts : Cert.Experts.Facts] [hPre_tables_named : Cert.Pre_tables_named.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] [hPre_tables_named : Cert.Pre_tables_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7)
      ∧ r.2.mem ((c.tc : Thread Cert.ExpertsReferenceIdeal.nD Cert.ExpertsReferenceIdeal.τ).loc Cert.ExpertsReferenceIdeal.main_arg8) = m ((c.tc : Thread Cert.ExpertsReferenceIdeal.nD Cert.ExpertsReferenceIdeal.τ).loc Cert.ExpertsReferenceIdeal.main_arg8))
      ∧ r.2.sem = fun _ => 0)

def quiescent_ExpertsReferenceIdeal_pre_tables_named [hExpertsReferenceIdeal : Cert.ExpertsReferenceIdeal.Facts] [hPre_tables_named : Cert.Pre_tables_named.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_tables_named m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7)
      ∧ r.2.mem ((c.tc : Thread Cert.ExpertsReferenceIdeal.nD Cert.ExpertsReferenceIdeal.τ).loc Cert.ExpertsReferenceIdeal.main_arg8) = m ((c.tc : Thread Cert.ExpertsReferenceIdeal.nD Cert.ExpertsReferenceIdeal.τ).loc Cert.ExpertsReferenceIdeal.main_arg8))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1)
      ∧ r.2.mem ((c.tc : Thread Cert.ConvIn.nD Cert.ConvIn.τ).loc Cert.ConvIn.main_arg2) = m ((c.tc : Thread Cert.ConvIn.nD Cert.ConvIn.τ).loc Cert.ConvIn.main_arg2)
      ∧ r.2.mem ((c.tc : Thread Cert.ConvIn.nD Cert.ConvIn.τ).loc Cert.ConvIn.main_arg3) = m ((c.tc : Thread Cert.ConvIn.nD Cert.ConvIn.τ).loc Cert.ConvIn.main_arg3)
      ∧ r.2.mem ((c.tc : Thread Cert.ConvIn.nD Cert.ConvIn.τ).loc Cert.ConvIn.main_arg4) = m ((c.tc : Thread Cert.ConvIn.nD Cert.ConvIn.τ).loc Cert.ConvIn.main_arg4)
      ∧ r.2.mem ((c.tc : Thread Cert.ConvIn.nD Cert.ConvIn.τ).loc Cert.ConvIn.main_arg5) = m ((c.tc : Thread Cert.ConvIn.nD Cert.ConvIn.τ).loc Cert.ConvIn.main_arg5))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
      ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2)
      ∧ r.2.mem ((c.tc : Thread Cert.ConvInIdeal.nD Cert.ConvInIdeal.τ).loc Cert.ConvInIdeal.main_arg3) = m ((c.tc : Thread Cert.ConvInIdeal.nD Cert.ConvInIdeal.τ).loc Cert.ConvInIdeal.main_arg3)
      ∧ r.2.mem ((c.tc : Thread Cert.ConvInIdeal.nD Cert.ConvInIdeal.τ).loc Cert.ConvInIdeal.main_arg4) = m ((c.tc : Thread Cert.ConvInIdeal.nD Cert.ConvInIdeal.τ).loc Cert.ConvInIdeal.main_arg4)
      ∧ r.2.mem ((c.tc : Thread Cert.ConvInIdeal.nD Cert.ConvInIdeal.τ).loc Cert.ConvInIdeal.main_arg5) = m ((c.tc : Thread Cert.ConvInIdeal.nD Cert.ConvInIdeal.τ).loc Cert.ConvInIdeal.main_arg5))
      ∧ r.2.sem = fun _ => 0)

def quiescent_ConvInReferenceIdeal [hConvInReferenceIdeal : Cert.ConvInReferenceIdeal.Facts] : Prop :=
  ∀ (m : (ℓ : Loc Cert.ConvInReferenceIdeal.nD Cert.ConvInReferenceIdeal.τ Cert.ConvInReferenceIdeal.sig) → Buf (Elt Ideal) ℓ) (g : Dev Cert.ConvInReferenceIdeal.nD → PrngReg), Pre_ConvInReferenceIdeal m →
    θ_run (Cert.ConvInReferenceIdeal.defs (F := Ideal)) (onTc (τ := Cert.ConvInReferenceIdeal.τ) (Cert.ConvInReferenceIdeal.main (F := Ideal))) ⟨m, fun _ => 0, g⟩ (fun r => (∀ c : Dev Cert.ConvInReferenceIdeal.nD,
      r.2.mem ((c.tc : Thread Cert.ConvInReferenceIdeal.nD Cert.ConvInReferenceIdeal.τ).loc Cert.ConvInReferenceIdeal.main_arg0) = m ((c.tc : Thread Cert.ConvInReferenceIdeal.nD Cert.ConvInReferenceIdeal.τ).loc Cert.ConvInReferenceIdeal.main_arg0)
      ∧ r.2.mem ((c.tc : Thread Cert.ConvInReferenceIdeal.nD Cert.ConvInReferenceIdeal.τ).loc Cert.ConvInReferenceIdeal.main_arg1) = m ((c.tc : Thread Cert.ConvInReferenceIdeal.nD Cert.ConvInReferenceIdeal.τ).loc Cert.ConvInReferenceIdeal.main_arg1)
      ∧ r.2.mem ((c.tc : Thread Cert.ConvInReferenceIdeal.nD Cert.ConvInReferenceIdeal.τ).loc Cert.ConvInReferenceIdeal.main_arg2) = m ((c.tc : Thread Cert.ConvInReferenceIdeal.nD Cert.ConvInReferenceIdeal.τ).loc Cert.ConvInReferenceIdeal.main_arg2)
      ∧ r.2.mem ((c.tc : Thread Cert.ConvInReferenceIdeal.nD Cert.ConvInReferenceIdeal.τ).loc Cert.ConvInReferenceIdeal.main_arg3) = m ((c.tc : Thread Cert.ConvInReferenceIdeal.nD Cert.ConvInReferenceIdeal.τ).loc Cert.ConvInReferenceIdeal.main_arg3)
      ∧ r.2.mem ((c.tc : Thread Cert.ConvInReferenceIdeal.nD Cert.ConvInReferenceIdeal.τ).loc Cert.ConvInReferenceIdeal.main_arg4) = m ((c.tc : Thread Cert.ConvInReferenceIdeal.nD Cert.ConvInReferenceIdeal.τ).loc Cert.ConvInReferenceIdeal.main_arg4)
      ∧ r.2.mem ((c.tc : Thread Cert.ConvInReferenceIdeal.nD Cert.ConvInReferenceIdeal.τ).loc Cert.ConvInReferenceIdeal.main_arg5) = m ((c.tc : Thread Cert.ConvInReferenceIdeal.nD Cert.ConvInReferenceIdeal.τ).loc Cert.ConvInReferenceIdeal.main_arg5))
      ∧ r.2.sem = fun _ => 0)

def preserves_Kernel_KernelIdeal : Prop :=
  True

def algebraic_KernelIdeal_ReferenceIdeal_pre_qk_finite [hKernelIdeal : Cert.KernelIdeal.Facts] [hReferenceIdeal : Cert.ReferenceIdeal.Facts] [hPre_qk_finite : Cert.Pre_qk_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_qk_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_tables_named : Cert.Pre_tables_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)
      ∧ m' ((c.tc : Thread Cert.ExpertsReferenceIdeal.nD Cert.ExpertsReferenceIdeal.τ).loc Cert.ExpertsReferenceIdeal.main_arg7) = m ((c.tc : Thread Cert.ExpertsIdeal.nD Cert.ExpertsIdeal.τ).loc Cert.ExpertsIdeal.main_arg7)
      ∧ m' ((c.tc : Thread Cert.ExpertsReferenceIdeal.nD Cert.ExpertsReferenceIdeal.τ).loc Cert.ExpertsReferenceIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v45) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7)
          ∧ r.2.mem ((c.tc : Thread Cert.ExpertsReferenceIdeal.nD Cert.ExpertsReferenceIdeal.τ).loc Cert.ExpertsReferenceIdeal.main_arg8) = m' ((c.tc : Thread Cert.ExpertsReferenceIdeal.nD Cert.ExpertsReferenceIdeal.τ).loc Cert.ExpertsReferenceIdeal.main_arg8))

def preserves_ConvIn_ConvInIdeal : Prop :=
  True

def algebraic_ConvInIdeal_ConvInReferenceIdeal [hConvInIdeal : Cert.ConvInIdeal.Facts] [hConvInReferenceIdeal : Cert.ConvInReferenceIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInReferenceIdeal.nD Cert.ConvInReferenceIdeal.τ Cert.ConvInReferenceIdeal.sig) → Buf (Elt Ideal) ℓ) (g' : Dev Cert.ConvInReferenceIdeal.nD → PrngReg), Pre_ConvInIdeal m →
    (∀ c : Dev Cert.ConvInIdeal.nD,
      m' ((c.tc : Thread Cert.ConvInReferenceIdeal.nD Cert.ConvInReferenceIdeal.τ).loc Cert.ConvInReferenceIdeal.main_arg0) = m ((c.tc : Thread Cert.ConvInIdeal.nD Cert.ConvInIdeal.τ).loc Cert.ConvInIdeal.main_arg0)
      ∧ m' ((c.tc : Thread Cert.ConvInReferenceIdeal.nD Cert.ConvInReferenceIdeal.τ).loc Cert.ConvInReferenceIdeal.main_arg1) = m ((c.tc : Thread Cert.ConvInIdeal.nD Cert.ConvInIdeal.τ).loc Cert.ConvInIdeal.main_arg1)
      ∧ m' ((c.tc : Thread Cert.ConvInReferenceIdeal.nD Cert.ConvInReferenceIdeal.τ).loc Cert.ConvInReferenceIdeal.main_arg2) = m ((c.tc : Thread Cert.ConvInIdeal.nD Cert.ConvInIdeal.τ).loc Cert.ConvInIdeal.main_arg2)
      ∧ m' ((c.tc : Thread Cert.ConvInReferenceIdeal.nD Cert.ConvInReferenceIdeal.τ).loc Cert.ConvInReferenceIdeal.main_arg3) = m ((c.tc : Thread Cert.ConvInIdeal.nD Cert.ConvInIdeal.τ).loc Cert.ConvInIdeal.main_arg3)
      ∧ m' ((c.tc : Thread Cert.ConvInReferenceIdeal.nD Cert.ConvInReferenceIdeal.τ).loc Cert.ConvInReferenceIdeal.main_arg4) = m ((c.tc : Thread Cert.ConvInIdeal.nD Cert.ConvInIdeal.τ).loc Cert.ConvInIdeal.main_arg4)
      ∧ m' ((c.tc : Thread Cert.ConvInReferenceIdeal.nD Cert.ConvInReferenceIdeal.τ).loc Cert.ConvInReferenceIdeal.main_arg5) = m ((c.tc : Thread Cert.ConvInIdeal.nD Cert.ConvInIdeal.τ).loc Cert.ConvInIdeal.main_arg5)) →
    ∃ (v0 : (c : Dev Cert.ConvInIdeal.nD) → Buf (Elt Ideal) ((c.tc : Thread Cert.ConvInIdeal.nD Cert.ConvInIdeal.τ).loc Cert.ConvInIdeal.main_v9)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v9) = v0 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
          ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2)
          ∧ r.2.mem ((c.tc : Thread Cert.ConvInIdeal.nD Cert.ConvInIdeal.τ).loc Cert.ConvInIdeal.main_arg3) = m ((c.tc : Thread Cert.ConvInIdeal.nD Cert.ConvInIdeal.τ).loc Cert.ConvInIdeal.main_arg3)
          ∧ r.2.mem ((c.tc : Thread Cert.ConvInIdeal.nD Cert.ConvInIdeal.τ).loc Cert.ConvInIdeal.main_arg4) = m ((c.tc : Thread Cert.ConvInIdeal.nD Cert.ConvInIdeal.τ).loc Cert.ConvInIdeal.main_arg4)
          ∧ r.2.mem ((c.tc : Thread Cert.ConvInIdeal.nD Cert.ConvInIdeal.τ).loc Cert.ConvInIdeal.main_arg5) = m ((c.tc : Thread Cert.ConvInIdeal.nD Cert.ConvInIdeal.τ).loc Cert.ConvInIdeal.main_arg5))
      ∧ θ_run (Cert.ConvInReferenceIdeal.defs (F := Ideal)) (onTc (τ := Cert.ConvInReferenceIdeal.τ) (Cert.ConvInReferenceIdeal.main (F := Ideal))) ⟨m', fun _ => 0, g'⟩ (fun r => ∀ c : Dev Cert.ConvInReferenceIdeal.nD,
          r.2.mem ((c.tc : Thread Cert.ConvInReferenceIdeal.nD Cert.ConvInReferenceIdeal.τ).loc Cert.ConvInReferenceIdeal.main_v37) = v0 c
          ∧ r.2.mem ((c.tc : Thread Cert.ConvInReferenceIdeal.nD Cert.ConvInReferenceIdeal.τ).loc Cert.ConvInReferenceIdeal.main_arg0) = m' ((c.tc : Thread Cert.ConvInReferenceIdeal.nD Cert.ConvInReferenceIdeal.τ).loc Cert.ConvInReferenceIdeal.main_arg0)
          ∧ r.2.mem ((c.tc : Thread Cert.ConvInReferenceIdeal.nD Cert.ConvInReferenceIdeal.τ).loc Cert.ConvInReferenceIdeal.main_arg1) = m' ((c.tc : Thread Cert.ConvInReferenceIdeal.nD Cert.ConvInReferenceIdeal.τ).loc Cert.ConvInReferenceIdeal.main_arg1)
          ∧ r.2.mem ((c.tc : Thread Cert.ConvInReferenceIdeal.nD Cert.ConvInReferenceIdeal.τ).loc Cert.ConvInReferenceIdeal.main_arg2) = m' ((c.tc : Thread Cert.ConvInReferenceIdeal.nD Cert.ConvInReferenceIdeal.τ).loc Cert.ConvInReferenceIdeal.main_arg2)
          ∧ r.2.mem ((c.tc : Thread Cert.ConvInReferenceIdeal.nD Cert.ConvInReferenceIdeal.τ).loc Cert.ConvInReferenceIdeal.main_arg3) = m' ((c.tc : Thread Cert.ConvInReferenceIdeal.nD Cert.ConvInReferenceIdeal.τ).loc Cert.ConvInReferenceIdeal.main_arg3)
          ∧ r.2.mem ((c.tc : Thread Cert.ConvInReferenceIdeal.nD Cert.ConvInReferenceIdeal.τ).loc Cert.ConvInReferenceIdeal.main_arg4) = m' ((c.tc : Thread Cert.ConvInReferenceIdeal.nD Cert.ConvInReferenceIdeal.τ).loc Cert.ConvInReferenceIdeal.main_arg4)
          ∧ r.2.mem ((c.tc : Thread Cert.ConvInReferenceIdeal.nD Cert.ConvInReferenceIdeal.τ).loc Cert.ConvInReferenceIdeal.main_arg5) = m' ((c.tc : Thread Cert.ConvInReferenceIdeal.nD Cert.ConvInReferenceIdeal.τ).loc Cert.ConvInReferenceIdeal.main_arg5))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hConvIn : Cert.ConvIn.Facts) (hConvInIdeal : Cert.ConvInIdeal.Facts) (hConvInReferenceIdeal : Cert.ConvInReferenceIdeal.Facts) (hPre_qk_finite : Cert.Pre_qk_finite.Facts) (hPre_tables_named : Cert.Pre_tables_named.Facts),
    quiescent_Kernel (hKernel := hKernel)
    ∧ quiescent_KernelIdeal (hKernelIdeal := hKernelIdeal)
    ∧ quiescent_KernelIdeal_pre_qk_finite (hKernelIdeal := hKernelIdeal) (hPre_qk_finite := hPre_qk_finite)
    ∧ quiescent_ReferenceIdeal (hReferenceIdeal := hReferenceIdeal)
    ∧ quiescent_ReferenceIdeal_pre_qk_finite (hReferenceIdeal := hReferenceIdeal) (hPre_qk_finite := hPre_qk_finite)
    ∧ quiescent_Experts (hExperts := hExperts) (hPre_tables_named := hPre_tables_named)
    ∧ quiescent_ExpertsIdeal (hExpertsIdeal := hExpertsIdeal) (hPre_tables_named := hPre_tables_named)
    ∧ quiescent_ExpertsReferenceIdeal (hExpertsReferenceIdeal := hExpertsReferenceIdeal)
    ∧ quiescent_ExpertsReferenceIdeal_pre_tables_named (hExpertsReferenceIdeal := hExpertsReferenceIdeal) (hPre_tables_named := hPre_tables_named)
    ∧ quiescent_ConvIn (hConvIn := hConvIn)
    ∧ quiescent_ConvInIdeal (hConvInIdeal := hConvInIdeal)
    ∧ quiescent_ConvInReferenceIdeal (hConvInReferenceIdeal := hConvInReferenceIdeal)
    ∧ preserves_Kernel_KernelIdeal
    ∧ algebraic_KernelIdeal_ReferenceIdeal_pre_qk_finite (hKernelIdeal := hKernelIdeal) (hReferenceIdeal := hReferenceIdeal) (hPre_qk_finite := hPre_qk_finite)
    ∧ preserves_Experts_ExpertsIdeal
    ∧ algebraic_ExpertsIdeal_ExpertsReferenceIdeal (hExpertsIdeal := hExpertsIdeal) (hExpertsReferenceIdeal := hExpertsReferenceIdeal) (hPre_tables_named := hPre_tables_named)
    ∧ preserves_ConvIn_ConvInIdeal
    ∧ algebraic_ConvInIdeal_ConvInReferenceIdeal (hConvInIdeal := hConvInIdeal) (hConvInReferenceIdeal := hConvInReferenceIdeal)
-- ==== Pre_qk_finite.lean ====
abbrev S2x4352x1024 : Shape := ⟨3, ![2, 4352, 1024]⟩
abbrev S2x4352x256 : Shape := ⟨3, ![2, 4352, 256]⟩
abbrev S2x4352x1280 : Shape := ⟨3, ![2, 4352, 1280]⟩
abbrev S_ : Shape := ⟨0, ![]⟩

class Facts : Prop where
  concatenates_S2x4352x1024_S2x4352x256_S2x4352x1280_d2 : Shape.Concatenates [S2x4352x1024, S2x4352x256] S2x4352x1280 2
  bcast_S_S2x4352x1280 : S_.BroadcastsInDim S2x4352x1280 (![] : Fin 0 → Fin S2x4352x1280.rank)

variable [Facts]

def fn {F : FTy → Type} [FloatOps F] (main_arg0 : FVec F S2x4352x1024 .f32) (main_arg1 : FVec F S2x4352x256 .f32) (main_arg2 : FVec F S2x4352x256 .f32) : IVec S2x4352x1280 1 :=
  let main_v0 : FVec F S2x4352x1280 .f32 := (fun a b => concatenate S2x4352x1280 2 [⟨S2x4352x1024, a⟩, ⟨S2x4352x256, b⟩] concatenates_S2x4352x1024_S2x4352x256_S2x4352x1280_d2) main_arg0 main_arg1
  let main_v1 : FVec F S2x4352x1280 .f32 := Host.absf main_v0
  let main_cst : FVec F S_ .f32 := constant S_ .f32 0x7F800000#32
  let main_v2 : FVec F S2x4352x1280 .f32 := broadcastInDim S2x4352x1280 ![] bcast_S_S2x4352x1280 main_cst
  let main_v3 : IVec S2x4352x1280 1 := cmpf .olt main_v1 main_v2
  main_v3
-- ==== Pre_tables_named.lean ====
abbrev S160 : Shape := ⟨1, ![160]⟩
abbrev S1 : Shape := ⟨1, ![1]⟩
abbrev S2x327680x128 : Shape := ⟨3, ![2, 327680, 128]⟩
abbrev S32x2048x1024 : Shape := ⟨3, ![32, 2048, 1024]⟩
abbrev S32x1x1024 : Shape := ⟨3, ![32, 1, 1024]⟩
abbrev S2x32x1024x2048 : Shape := ⟨4, ![2, 32, 1024, 2048]⟩
abbrev S32x1x2048 : Shape := ⟨3, ![32, 1, 2048]⟩
abbrev S_ : Shape := ⟨0, ![]⟩
abbrev S161 : Shape := ⟨1, ![161]⟩

class Facts : Prop where
  bcast_S_S160 : S_.BroadcastsInDim S160 (![] : Fin 0 → Fin S160.rank)
  bcast_S_S1 : S_.BroadcastsInDim S1 (![] : Fin 0 → Fin S1.rank)
  concatenates_S160_S1_S161_d0 : Shape.Concatenates [S160, S1] S161 0

variable [Facts]

def fn {F : FTy → Type} [FloatOps F] (main_arg0 : IVec S160 32) (main_arg1 : IVec S1 32) (main_arg2 : FVec F S2x327680x128 .f32) (main_arg3 : FVec F S32x2048x1024 .bf16) (main_arg4 : FVec F S32x2048x1024 .bf16) (main_arg5 : FVec F S32x1x1024 .f32) (main_arg6 : FVec F S32x1x1024 .f32) (main_arg7 : FVec F S2x32x1024x2048 .f32) (main_arg8 : FVec F S32x1x2048 .f32) : IVec S161 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S161 1 := (fun a b => concatenate S161 0 [⟨S160, a⟩, ⟨S1, b⟩] concatenates_S160_S1_S161_d0) main_v4 main_v6
  main_v7
-- ==== Kernel.lean ====
abbrev S2x4352x1024 : Shape := ⟨3, ![2, 4352, 1024]⟩
abbrev S2x4352x256 : Shape := ⟨3, ![2, 4352, 256]⟩
abbrev S_ : Shape := ⟨0, ![]⟩
abbrev S2x4096x1024 : Shape := ⟨3, ![2, 4096, 1024]⟩
abbrev S1x256x512 : Shape := ⟨3, ![1, 256, 512]⟩
abbrev S1x4352x128 : Shape := ⟨3, ![1, 4352, 128]⟩
abbrev S4352x128 : Shape := ⟨2, ![4352, 128]⟩
abbrev S1x256x128 : Shape := ⟨3, ![1, 256, 128]⟩
abbrev S256x128 : Shape := ⟨2, ![256, 128]⟩
abbrev S256x4352 : Shape := ⟨2, ![256, 4352]⟩
abbrev S256 : Shape := ⟨1, ![256]⟩
abbrev S256x1 : Shape := ⟨2, ![256, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x4352x1024, .f32⟩
  | .hbm, ⟨1, _⟩ => ⟨S2x4352x256, .f32⟩
  | .hbm, ⟨2, _⟩ => ⟨S2x4352x256, .f32⟩
  | .hbm, ⟨3, _⟩ => ⟨S_, .f32⟩
  | .hbm, ⟨4, _⟩ => ⟨S2x4352x1024, .f32⟩
  | .hbm, ⟨5, _⟩ => ⟨S2x4352x1024, .f32⟩
  | .hbm, ⟨6, _⟩ => ⟨S2x4352x1024, .bf16⟩
  | .hbm, ⟨7, _⟩ => ⟨S2x4352x256, .bf16⟩
  | .hbm, ⟨8, _⟩ => ⟨S2x4352x256, .bf16⟩
  | .hbm, ⟨9, _⟩ => ⟨S2x4096x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x256x512, .bf16⟩
  | .local _ .vmem, ⟨7, _⟩ => ⟨S1x256x512, .bf16⟩
  | _, _ => ⟨S2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x4352x1024 : Shape := ⟨3, ![2, 4352, 1024]⟩
abbrev S2x4352x256 : Shape := ⟨3, ![2, 4352, 256]⟩
abbrev S2x4096x1024 : Shape := ⟨3, ![2, 4096, 1024]⟩
abbrev S2x4096x2x4x128 : Shape := ⟨5, ![2, 4096, 2, 4, 128]⟩
abbrev S2x4352x2x128 : Shape := ⟨4, ![2, 4352, 2, 128]⟩
abbrev S2x2x4352x4096x4 : Shape := ⟨5, ![2, 2, 4352, 4096, 4]⟩
abbrev S2x2x4x4096x4352 : Shape := ⟨5, ![2, 2, 4, 4096, 4352]⟩
abbrev S_ : Shape := ⟨0, ![]⟩
abbrev S2x2x4x4096 : Shape := ⟨4, ![2, 2, 4, 4096]⟩
abbrev S2x2x4x4096x1 : Shape := ⟨5, ![2, 2, 4, 4096, 1]⟩
abbrev S2x2x128x4x4096 : Shape := ⟨5, ![2, 2, 128, 4, 4096]⟩

abbrev nBuf : Space → Nat
  | .hbm => 30
  | .vmem => 0
  | .smem => 0
  | _ => 0

abbrev bufTy : (tb : Table) → Fin (tcTables nBuf tb) → BufTy
  | .hbm, ⟨0, _⟩ => ⟨S2x4352x1024, .f32⟩
  | .hbm, ⟨1, _⟩ => ⟨S2x4352x256, .f32⟩
  | .hbm, ⟨2, _⟩ => ⟨S2x4352x256, .f32⟩
  | .hbm, ⟨3, _⟩ => ⟨S2x4096x1024, .f32⟩
  | .hbm, ⟨4, _⟩ => ⟨S2x4096x2x4x128, .f32⟩
  | .hbm, ⟨5, _⟩ => ⟨S2x4352x2x128, .f32⟩
  | .hbm, ⟨6, _⟩ => ⟨S2x4352x2x128, .f32⟩
  | .hbm, ⟨7, _⟩ => ⟨S2x2x4352x4096x4, .f32⟩
  | .hbm, ⟨8, _⟩ => ⟨S2x2x4x4096x4352, .f32⟩
  | .hbm, ⟨9, _⟩ => ⟨S_, .f32⟩
  | .hbm, ⟨10, _⟩ => ⟨S2x2x4x4096x4352, .f32⟩
  | .hbm, ⟨11, _⟩ => ⟨S2x2x4x4096x4352, .f32⟩
  | .hbm, ⟨12, _⟩ => ⟨S_, .f32⟩
  | .hbm, ⟨13, _⟩ => ⟨S2x2x4x4096, .f32⟩
  | .hbm, ⟨14, _⟩ => ⟨S_, .f32⟩
  | .hbm, ⟨15, _⟩ => ⟨S2x2x4x4096, .f32⟩
  | .hbm, ⟨16, _⟩ => ⟨S2x2x4x4096, .f32⟩
  | .hbm, ⟨17, _⟩ => ⟨S2x2x4x4096x1, .f32⟩
  | .hbm, ⟨18, _⟩ => ⟨S2x2x4x4096x4352, .f32⟩
  | .hbm, ⟨19, _⟩ => ⟨S2x2x4x4096x4352, .f32⟩
  | .hbm, ⟨20, _⟩ => ⟨S2x2x4x4096x4352, .f32⟩
  | .hbm, ⟨21, _⟩ => ⟨S_, .f32⟩
  | .hbm, ⟨22, _⟩ => ⟨S2x2x4x4096, .f32⟩
  | .hbm, ⟨23, _⟩ => ⟨S2x2x4x4096x1, .f32⟩
  | .hbm, ⟨24, _⟩ => ⟨S2x2x4x4096x4352, .f32⟩
  | .hbm, ⟨25, _⟩ => ⟨S2x2x4x4096x4352, .f32⟩
  | .hbm, ⟨26, _⟩ => ⟨S2x2x128x4x4096, .f32⟩
  | .hbm, ⟨27, _⟩ => ⟨S2x4096x2x4x128, .f32⟩
  | .hbm, ⟨28, _⟩ => ⟨S2x4096x1024, .f32⟩
  | .hbm, ⟨29, _⟩ => ⟨S2x4096x1024, .bf16⟩
  | _, _ => ⟨S2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Experts.lean ====
abbrev S160 : Shape := ⟨1, ![160]⟩
abbrev S1 : Shape := ⟨1, ![1]⟩
abbrev S2x327680x128 : Shape := ⟨3, ![2, 327680, 128]⟩
abbrev S32x2048x1024 : Shape := ⟨3, ![32, 2048, 1024]⟩
abbrev S32x1x1024 : Shape := ⟨3, ![32, 1, 1024]⟩
abbrev S2x32x1024x2048 : Shape := ⟨4, ![2, 32, 1024, 2048]⟩
abbrev S32x1x2048 : Shape := ⟨3, ![32, 1, 2048]⟩
abbrev S2x2048x128 : Shape := ⟨3, ![2, 2048, 128]⟩
abbrev S1x2048x1024 : Shape := ⟨3, ![1, 2048, 1024]⟩
abbrev S1x1x1024 : Shape := ⟨3, ![1, 1, 1024]⟩
abbrev S1x1x1024x2048 : Shape := ⟨4, ![1, 1, 1024, 2048]⟩
abbrev S1x1x2048 : Shape := ⟨3, ![1, 1, 2048]⟩
abbrev S1024x2048 : Shape := ⟨2, ![1024, 2048]⟩
abbrev S1x256x128 : Shape := ⟨3, ![1, 256, 128]⟩
abbrev S256x128 : Shape := ⟨2, ![256, 128]⟩
abbrev S256x1024 : Shape := ⟨2, ![256, 1024]⟩
abbrev S256x2048 : Shape := ⟨2, ![256, 2048]⟩
abbrev S2048x1024 : Shape := ⟨2, ![2048, 1024]⟩
abbrev S1x1024 : Shape := ⟨2, ![1, 1024]⟩
abbrev S1x2048 : Shape := ⟨2, ![1, 2048]⟩

abbrev nBuf : Space → Nat
  | .hbm => 8
  | .vmem => 17
  | .smem => 2
  | _ => 0

abbrev bufTy : (tb : Table) → Fin (tcTables nBuf tb) → BufTy
  | .hbm, ⟨0, _⟩ => ⟨S2x327680x128, .f32⟩
  | .hbm, ⟨1, _⟩ => ⟨S32x2048x1024, .bf16⟩
  | .hbm, ⟨2, _⟩ => ⟨S32x2048x1024, .bf16⟩
  | .hbm, ⟨3, _⟩ => ⟨S32x1x1024, .f32⟩
  | .hbm, ⟨4, _⟩ => ⟨S32x1x1024, .f32⟩
  | .hbm, ⟨5, _⟩ => ⟨S2x32x1024x2048, .f32⟩
  | .hbm, ⟨6, _⟩ => ⟨S32x1x2048, .f32⟩
  | .hbm, ⟨7, _⟩ => ⟨S2x327680x128, .f32⟩
  | .local _ .vmem, ⟨0, _⟩ => ⟨S2x2048x128, .f32⟩
  | .local _ .vmem, ⟨1, _⟩ => ⟨S2x2048x128, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024x2048, .f32⟩
  | .local _ .vmem, ⟨11, _⟩ => ⟨S1x1x1024x2048, .f32⟩
  | .local _ .vmem, ⟨12, _⟩ => ⟨S1x1x2048, .f32⟩
  | .local _ .vmem, ⟨13, _⟩ => ⟨S1x1x2048, .f32⟩
  | .local _ .vmem, ⟨14, _⟩ => ⟨S2x2048x128, .f32⟩
  | .local _ .vmem, ⟨15, _⟩ => ⟨S2x2048x128, .f32⟩
  | .local _ .vmem, ⟨16, _⟩ => ⟨S1024x2048, .bf16⟩
  | .local _ .smem, ⟨0, _⟩ => ⟨S160, .i32⟩
  | .local _ .smem, ⟨1, _⟩ => ⟨S1, .i32⟩
  | _, _ => ⟨S2x327680x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![c0_i32.toNat, v2.toNat, c0_i32_0.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsReferenceIdeal.lean ====
abbrev S160 : Shape := ⟨1, ![160]⟩
abbrev S1 : Shape := ⟨1, ![1]⟩
abbrev S2x327680x128 : Shape := ⟨3, ![2, 327680, 128]⟩
abbrev S32x2048x1024 : Shape := ⟨3, ![32, 2048, 1024]⟩
abbrev S32x1x1024 : Shape := ⟨3, ![32, 1, 1024]⟩
abbrev S2x32x1024x2048 : Shape := ⟨4, ![2, 32, 1024, 2048]⟩
abbrev S32x1x2048 : Shape := ⟨3, ![32, 1, 2048]⟩
abbrev S2x160x256x8x128 : Shape := ⟨5, ![2, 160, 256, 8, 128]⟩
abbrev S160x256x2x8x128 : Shape := ⟨5, ![160, 256, 2, 8, 128]⟩
abbrev S160x256x2048 : Shape := ⟨3, ![160, 256, 2048]⟩
abbrev S160x1 : Shape := ⟨2, ![160, 1]⟩
abbrev S160x2048x1024 : Shape := ⟨3, ![160, 2048, 1024]⟩
abbrev S160x256x1024 : Shape := ⟨3, ![160, 256, 1024]⟩
abbrev S160x1x1024 : Shape := ⟨3, ![160, 1, 1024]⟩
abbrev S_ : Shape := ⟨0, ![]⟩
abbrev S1x32x1024x2048 : Shape := ⟨4, ![1, 32, 1024, 2048]⟩
abbrev S32x1024x2048 : Shape := ⟨3, ![32, 1024, 2048]⟩
abbrev S160x1024x2048 : Shape := ⟨3, ![160, 1024, 2048]⟩
abbrev S160x1x2048 : Shape := ⟨3, ![160, 1, 2048]⟩
abbrev S160x1x1 : Shape := ⟨3, ![160, 1, 1]⟩

abbrev nBuf : Space → Nat
  | .hbm => 77
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S2x327680x128, .f32⟩
  | .hbm, ⟨3, _⟩ => ⟨S32x2048x1024, .bf16⟩
  | .hbm, ⟨4, _⟩ => ⟨S32x2048x1024, .bf16⟩
  | .hbm, ⟨5, _⟩ => ⟨S32x1x1024, .f32⟩
  | .hbm, ⟨6, _⟩ => ⟨S32x1x1024, .f32⟩
  | .hbm, ⟨7, _⟩ => ⟨S2x32x1024x2048, .f32⟩
  | .hbm, ⟨8, _⟩ => ⟨S32x1x2048, .f32⟩
  | .hbm, ⟨9, _⟩ => ⟨S2x160x256x8x128, .f32⟩
  | .hbm, ⟨10, _⟩ => ⟨S160x256x2x8x128, .f32⟩
  | .hbm, ⟨11, _⟩ => ⟨S160x256x2048, .f32⟩
  | .hbm, ⟨12, _⟩ => ⟨S160x1, .i32⟩
  | .hbm, ⟨13, _⟩ => ⟨S160x2048x1024, .bf16⟩
  | .hbm, ⟨14, _⟩ => ⟨S160x2048x1024, .f32⟩
  | .hbm, ⟨15, _⟩ => ⟨S160x256x1024, .f32⟩
  | .hbm, ⟨16, _⟩ => ⟨S160x1, .i32⟩
  | .hbm, ⟨17, _⟩ => ⟨S160x1x1024, .f32⟩
  | .hbm, ⟨18, _⟩ => ⟨S160x256x1024, .f32⟩
  | .hbm, ⟨19, _⟩ => ⟨S160x256x1024, .f32⟩
  | .hbm, ⟨20, _⟩ => ⟨S160x1, .i32⟩
  | .hbm, ⟨21, _⟩ => ⟨S160x2048x1024, .bf16⟩
  | .hbm, ⟨22, _⟩ => ⟨S160x2048x1024, .f32⟩
  | .hbm, ⟨23, _⟩ => ⟨S160x256x1024, .f32⟩
  | .hbm, ⟨24, _⟩ => ⟨S160x1, .i32⟩
  | .hbm, ⟨25, _⟩ => ⟨S160x1x1024, .f32⟩
  | .hbm, ⟨26, _⟩ => ⟨S160x256x1024, .f32⟩
  | .hbm, ⟨27, _⟩ => ⟨S160x256x1024, .f32⟩
  | .hbm, ⟨28, _⟩ => ⟨S_, .f32⟩
  | .hbm, ⟨29, _⟩ => ⟨S160x256x1024, .f32⟩
  | .hbm, ⟨30, _⟩ => ⟨S160x256x1024, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S160x256x1024, .f32⟩
  | .hbm, ⟨35, _⟩ => ⟨S160x256x1024, .f32⟩
  | .hbm, ⟨36, _⟩ => ⟨S_, .f32⟩
  | .hbm, ⟨37, _⟩ => ⟨S160x256x1024, .f32⟩
  | .hbm, ⟨38, _⟩ => ⟨S160x256x1024, .f32⟩
  | .hbm, ⟨39, _⟩ => ⟨S_, .f32⟩
  | .hbm, ⟨40, _⟩ => ⟨S160x256x1024, .f32⟩
  | .hbm, ⟨41, _⟩ => ⟨S160x256x1024, .f32⟩
  | .hbm, ⟨42, _⟩ => ⟨S160x256x1024, .f32⟩
  | .hbm, ⟨43, _⟩ => ⟨S160x256x1024, .f32⟩
  | .hbm, ⟨44, _⟩ => ⟨S_, .f32⟩
  | .hbm, ⟨45, _⟩ => ⟨S160x256x1024, .f32⟩
  | .hbm, ⟨46, _⟩ => ⟨S160x256x1024, .f32⟩
  | .hbm, ⟨47, _⟩ => ⟨S_, .f32⟩
  | .hbm, ⟨48, _⟩ => ⟨S160x256x1024, .f32⟩
  | .hbm, ⟨49, _⟩ => ⟨S160x256x1024, .f32⟩
  | .hbm, ⟨50, _⟩ => ⟨S160x256x1024, .f32⟩
  | .hbm, ⟨51, _⟩ => ⟨S_, .f32⟩
  | .hbm, ⟨52, _⟩ => ⟨S160x256x1024, .f32⟩
  | .hbm, ⟨53, _⟩ => ⟨S160x256x1024, .f32⟩
  | .hbm, ⟨54, _⟩ => ⟨S160x256x1024, .f32⟩
  | .hbm, ⟨55, _⟩ => ⟨S1x32x1024x2048, .f32⟩
  | .hbm, ⟨56, _⟩ => ⟨S32x1024x2048, .f32⟩
  | .hbm, ⟨57, _⟩ => ⟨S160x1, .i32⟩
  | .hbm, ⟨58, _⟩ => ⟨S160x1024x2048, .f32⟩
  | .hbm, ⟨59, _⟩ => ⟨S160x256x2048, .f32⟩
  | .hbm, ⟨60, _⟩ => ⟨S160x1, .i32⟩
  | .hbm, ⟨61, _⟩ => ⟨S160x1x2048, .f32⟩
  | .hbm, ⟨62, _⟩ => ⟨S160x256x2048, .f32⟩
  | .hbm, ⟨63, _⟩ => ⟨S160x256x2048, .f32⟩
  | .hbm, ⟨64, _⟩ => ⟨S160, .i32⟩
  | .hbm, ⟨65, _⟩ => ⟨S160x1x1, .i32⟩
  | .hbm, ⟨66, _⟩ => ⟨S_, .i32⟩
  | .hbm, ⟨67, _⟩ => ⟨S160x1x1, .i32⟩
  | .hbm, ⟨68, _⟩ => ⟨S160x1x1, .i1⟩
  | .hbm, ⟨69, _⟩ => ⟨S_, .f32⟩
  | .hbm, ⟨70, _⟩ => ⟨S_, .f32⟩
  | .hbm, ⟨71, _⟩ => ⟨S160x256x2048, .i1⟩
  | .hbm, ⟨72, _⟩ => ⟨S160x256x2048, .f32⟩
  | .hbm, ⟨73, _⟩ => ⟨S160x256x2048, .f32⟩
  | .hbm, ⟨74, _⟩ => ⟨S160x256x2x8x128, .f32⟩
  | .hbm, ⟨75, _⟩ => ⟨S2x160x256x8x128, .f32⟩
  | .hbm, ⟨76, _⟩ => ⟨S2x327680x128, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call2_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call3_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_cst_1 : Ref sig .tc := ⟨.hbm, 32, rfl⟩
abbrev main_call4_v0 : Ref sig .tc := ⟨.hbm, 33, rfl⟩
abbrev main_call4_v1 : Ref sig .tc := ⟨.hbm, 34, rfl⟩
abbrev main_call4_v2 : Ref sig .tc := ⟨.hbm, 35, rfl⟩
abbrev main_call4_v3 : Ref sig .tc := ⟨.hbm, 36, rfl⟩
abbrev main_call4_v4 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_call5_v0 : Ref sig .tc := ⟨.hbm, 57, rfl⟩
abbrev main_v32 : Ref sig .tc := ⟨.hbm, 58, rfl⟩
abbrev main_v33 : Ref sig .tc := ⟨.hbm, 59, rfl⟩
abbrev main_call6_v0 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_call7_v0 : Ref sig .tc := ⟨.hbm, 70, rfl⟩
abbrev main_call7_v1 : Ref sig .tc := ⟨.hbm, 71, rfl⟩
abbrev main_call7_v2 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩

abbrev nD : Nat := 1
abbrev τ : Topo := Topo.v7x

variable {F : FTy → Type} [FloatOps F]
-- ==== ConvIn.lean ====
abbrev S8192x2048 : Shape := ⟨2, ![8192, 2048]⟩
abbrev S2048 : Shape := ⟨1, ![2048]⟩
abbrev S8x2048 : Shape := ⟨2, ![8, 2048]⟩
abbrev S2048x4096 : Shape := ⟨2, ![2048, 4096]⟩
abbrev S4096 : Shape := ⟨1, ![4096]⟩
abbrev S8x1x2048 : Shape := ⟨3, ![8, 1, 2048]⟩
abbrev S_ : Shape := ⟨0, ![]⟩
abbrev S1x1x2048 : Shape := ⟨3, ![1, 1, 2048]⟩
abbrev S1x4096 : Shape := ⟨2, ![1, 4096]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S256x4096 : Shape := ⟨2, ![256, 4096]⟩

abbrev nBuf : Space → Nat
  | .hbm => 17
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x4096, .f32⟩
  | .hbm, ⟨5, _⟩ => ⟨S4096, .f32⟩
  | .hbm, ⟨6, _⟩ => ⟨S8x1x2048, .f32⟩
  | .hbm, ⟨7, _⟩ => ⟨S_, .f32⟩
  | .hbm, ⟨8, _⟩ => ⟨S8x1x2048, .f32⟩
  | .hbm, ⟨9, _⟩ => ⟨S8x1x2048, .f32⟩
  | .hbm, ⟨10, _⟩ => ⟨S1x1x2048, .f32⟩
  | .hbm, ⟨11, _⟩ => ⟨S8x1x2048, .f32⟩
  | .hbm, ⟨12, _⟩ => ⟨S8x1x2048, .f32⟩
  | .hbm, ⟨13, _⟩ => ⟨S8x1x2048, .f32⟩
  | .hbm, ⟨14, _⟩ => ⟨S2048x4096, .bf16⟩
  | .hbm, ⟨15, _⟩ => ⟨S1x4096, .f32⟩
  | .hbm, ⟨16, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x4096, .bf16⟩
  | .local _ .vmem, ⟨7, _⟩ => ⟨S1x4096, .f32⟩
  | .local _ .vmem, ⟨8, _⟩ => ⟨S256x2048, .f32⟩
  | .local _ .vmem, ⟨9, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvInReferenceIdeal.lean ====
abbrev S8192x2048 : Shape := ⟨2, ![8192, 2048]⟩
abbrev S2048 : Shape := ⟨1, ![2048]⟩
abbrev S8x2048 : Shape := ⟨2, ![8, 2048]⟩
abbrev S2048x4096 : Shape := ⟨2, ![2048, 4096]⟩
abbrev S4096 : Shape := ⟨1, ![4096]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x2048 : Shape := ⟨2, ![2, 2048]⟩
abbrev S2x1x2048 : Shape := ⟨3, ![2, 1, 2048]⟩
abbrev S2x4096x4096 : Shape := ⟨3, ![2, 4096, 4096]⟩
abbrev S1x1x4096 : Shape := ⟨3, ![1, 1, 4096]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x4096, .f32⟩
  | .hbm, ⟨5, _⟩ => ⟨S4096, .f32⟩
  | .hbm, ⟨6, _⟩ => ⟨S2x4096x2048, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S2x2048, .f32⟩
  | .hbm, ⟨24, _⟩ => ⟨S2x1x2048, .f32⟩
  | .hbm, ⟨25, _⟩ => ⟨S_, .f32⟩
  | .hbm, ⟨26, _⟩ => ⟨S2x1x2048, .f32⟩
  | .hbm, ⟨27, _⟩ => ⟨S2x1x2048, .f32⟩
  | .hbm, ⟨28, _⟩ => ⟨S2x4096x2048, .f32⟩
  | .hbm, ⟨29, _⟩ => ⟨S2x4096x2048, .f32⟩
  | .hbm, ⟨30, _⟩ => ⟨S2x2048, .f32⟩
  | .hbm, ⟨31, _⟩ => ⟨S2x1x2048, .f32⟩
  | .hbm, ⟨32, _⟩ => ⟨S2x4096x2048, .f32⟩
  | .hbm, ⟨33, _⟩ => ⟨S2x4096x2048, .f32⟩
  | .hbm, ⟨34, _⟩ => ⟨S2x4096x4096, .f32⟩
  | .hbm, ⟨35, _⟩ => ⟨S1x1x4096, .f32⟩
  | .hbm, ⟨36, _⟩ => ⟨S2x4096x4096, .f32⟩
  | .hbm, ⟨37, _⟩ => ⟨S2x4096x4096, .f32⟩
  | .hbm, ⟨38, _⟩ => ⟨S2x4096x2048, .f32⟩
  | .hbm, ⟨39, _⟩ => ⟨S2x4096x2048, .f32⟩
  | .hbm, ⟨40, _⟩ => ⟨S2x4096x2048, .f32⟩
  | .hbm, ⟨41, _⟩ => ⟨S2x4096x2048, .f32⟩
  | .hbm, ⟨42, _⟩ => ⟨S_, .f32⟩
  | .hbm, ⟨43, _⟩ => ⟨S2x4096x2048, .f32⟩
  | .hbm, ⟨44, _⟩ => ⟨S2x4096x2048, .f32⟩
  | .hbm, ⟨45, _⟩ => ⟨S_, .f32⟩
  | .hbm, ⟨46, _⟩ => ⟨S2x4096x2048, .f32⟩
  | .hbm, ⟨47, _⟩ => ⟨S2x4096x2048, .f32⟩
  | .hbm, ⟨48, _⟩ => ⟨S2x4096x2048, .f32⟩
  | .hbm, ⟨49, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Proof.SoftmaxRow.lean ====
/- One row of a softmax-weighted sum over the extended reals: dividing the weighted sum by the sum of the
   exponentials, or weighting by the divided exponentials, is the same when the scores are finite. -/
module

public import Idealize.ShloMosaic.Lib.Pointwise
public import Idealize.ShloMosaic.PureOps.Ideal.Laws

@[expose] public section

noncomputable section

namespace Cert.SoftmaxRow

open Idealize.ShloMosaic

/-- The pattern of minus infinity denotes the bottom of the extended reals. -/
theorem neg_inf : Ideal.ofBits .f32 0xFF800000#32 = (⊥ : EReal) := by
  simp [Ideal.ofBits, Ideal.ieee]

/-- The pattern of plus infinity denotes the top of the extended reals. -/
theorem pos_inf : Ideal.ofBits .f32 0x7F800000#32 = (⊤ : EReal) := by
  simp [Ideal.ofBits, Ideal.ieee]

/-- The scale of the scores (the single-precision number nearest to one over the root of 128) is a real number that is not negative. -/
theorem scale_real : ∃ r : ℝ, 0 ≤ r ∧ Ideal.ofBits .f32 0x3DB504F3#32 = (r : EReal) := by
  refine ⟨_, ?_, by simp [Ideal.ofBits, Ideal.ieee, -EReal.coe_mul]; rfl⟩
  positivity

/-- The sum of real numbers taken as extended reals is their real sum. -/
theorem coe_sum {n : ℕ} (g : Fin n → ℝ) (t : Finset (Fin n)) : ((∑ k ∈ t, g k : ℝ) : EReal) = ∑ k ∈ t, (g k : EReal) := by
  induction t using Finset.induction_on with
  | empty => simp
  | insert x t hx ih => rw [Finset.sum_insert hx, Finset.sum_insert hx, EReal.coe_add, ih]

/-- A sum of products of real numbers is a real number. -/
theorem real_sum {n : ℕ} (f : Fin n → EReal) (h : ∀ k, ∃ r : ℝ, f k = (r : EReal)) : ∃ r : ℝ, ∑ k, f k = (r : EReal) := by
  choose g hg using h
  exact ⟨∑ k, g k, by simp_rw [hg]; exact (coe_sum _ _).symm⟩

/-- An extended real whose size is below infinity is a real number. -/
theorem real_of_abs_lt (x : EReal) (h : max x (-x) < ⊤) : ∃ r : ℝ, x = (r : EReal) := by
  induction x with
  | bot => simp at h
  | top => simp at h
  | coe r => exact ⟨r, rfl⟩

/-- A real factor that is not negative moves out of a sum of products. -/
theorem sum_scaled {n : ℕ} (a b : Fin n → EReal) (r : ℝ) (hr : 0 ≤ r) :
    ∑ d, a d * (r : EReal) * b d = (∑ d, b d * a d) * (r : EReal) := by
  have key : ∀ s : Finset (Fin n), ∑ d ∈ s, a d * (r : EReal) * b d = (∑ d ∈ s, b d * a d) * (r : EReal) := by
    intro s
    induction s using Finset.induction_on with
    | empty => simp
    | insert x s hx ih =>
      rw [Finset.sum_insert hx, Finset.sum_insert hx, ih, EReal.right_distrib_of_nonneg_of_ne_top (by exact_mod_cast hr) (EReal.coe_ne_top r)]
      congr 1
      ac_rfl
  exact key Finset.univ

/-- The largest of finitely many real numbers (at least one) is a real number. -/
theorem real_max {n : ℕ} [NeZero n] (s : Fin n → EReal) (h : ∀ k, ∃ r : ℝ, s k = (r : EReal)) :
    ∃ r : ℝ, Finset.univ.fold max (⊥ : EReal) s = (r : EReal) := by
  have h1 : Finset.univ.fold max (⊥ : EReal) s < ⊤ := by
    rw [Finset.fold_max_lt]
    exact ⟨bot_lt_top, fun k _ => by obtain ⟨r, hr⟩ := h k; rw [hr]; exact EReal.coe_lt_top r⟩
  have h2 : ⊥ < Finset.univ.fold max (⊥ : EReal) s := by
    rw [Finset.lt_fold_max]
    exact Or.inr ⟨0, Finset.mem_univ _, by obtain ⟨r, hr⟩ := h 0; rw [hr]; exact EReal.bot_lt_coe r⟩
  exact ⟨_, (EReal.coe_toReal h1.ne h2.ne').symm⟩

/-- THE ROW: the weighted sum divided by the sum of the exponentials is the sum weighted by the divided exponentials. -/
theorem row {n : ℕ} [NeZero n] (s v : Fin n → EReal) (h : ∀ k, ∃ r : ℝ, s k = (r : EReal)) :
    Ideal.div (∑ j, Ideal.exp (s j - Finset.univ.fold max (⊥ : EReal) s) * v j)
        (∑ j, Ideal.exp (s j - Finset.univ.fold max (⊥ : EReal) s))
      = ∑ j, v j * Ideal.div (Ideal.exp (s j - Finset.univ.fold max (⊥ : EReal) s))
          (∑ l, Ideal.exp (s l - Finset.univ.fold max (⊥ : EReal) s)) := by
  obtain ⟨M, hM⟩ := real_max s h
  rw [hM]
  choose g hg using h
  have he : ∀ j, Ideal.exp (s j - (M : EReal)) = ((Real.exp (g j - M) : ℝ) : EReal) := by
    intro j; rw [hg j, ← EReal.coe_sub]; rfl
  simp_rw [he]
  rw [← coe_sum]
  have hpos : 0 < ∑ j, Real.exp (g j - M) := Finset.sum_pos (fun j _ => Real.exp_pos _) ⟨0, Finset.mem_univ _⟩
  simp_rw [Ideal.div_coe hpos.ne']
  have hinv : 0 ≤ 1 / ∑ j, Real.exp (g j - M) := by positivity
  generalize 1 / ∑ j, Real.exp (g j - M) = w at hinv
  have key : ∀ t : Finset (Fin n), (∑ j ∈ t, ((Real.exp (g j - M) : ℝ) : EReal) * v j) * (w : EReal)
      = ∑ j ∈ t, v j * (((Real.exp (g j - M) : ℝ) : EReal) * (w : EReal)) := by
    intro t
    induction t using Finset.induction_on with
    | empty => simp
    | insert x t hx ih =>
      rw [Finset.sum_insert hx, Finset.sum_insert hx,
        EReal.right_distrib_of_nonneg_of_ne_top (by exact_mod_cast hinv) (EReal.coe_ne_top w), ih]
      congr 1
      ac_rfl
  exact key Finset.univ

end Cert.SoftmaxRow

end
-- ==== Proof.Att.Tile.lean ====
/- One head of the attention block read at an index: each of the four stored tiles is the same function of the
   head's queries, the keys and the values. -/
module

public import proofs.«01_k».proof.Proof.Gen.KernelIdeal.Skeleton
public import Idealize.ShloMosaic.Lib.Pipeline.ValueKit
public import proofs.«01_k».proof.Proof.SoftmaxRow

@[expose] public section

set_option maxRecDepth 16384

noncomputable section

namespace Cert.Att

open Idealize.ShloMosaic Idealize.ShloMosaic.TcCoe Idealize.SL.Sem Cert.KernelIdeal Cert.KernelIdeal.Gen

/-- One output of a row: the weighted sum of the values over the sum of the weights. -/
def rowOut {n : ℕ} (s v : Fin n → EReal) : EReal :=
  Ideal.div (∑ j, Ideal.exp (s j - Finset.univ.fold max (⊥ : EReal) s) * v j)
    (∑ j, Ideal.exp (s j - Finset.univ.fold max (⊥ : EReal) s))

/-- The first head's stored tile at row `r`, lane `d`. -/
theorem tile0 (k v : FVec Ideal S1x4352x128 .bf16) (q : FVec Ideal S1x256x128 .bf16) (r : Fin 256) (d : Fin 128) :
    k0_pay4 (F := Ideal) k v q (ix3 0 r d)
      = rowOut (fun j : Fin 4352 => ∑ e : Fin 128, q (ix3 0 r e) * k (ix3 0 j e)) (fun j => v (ix3 0 j d)) := by
  pointwise [k0_pay4, k0_pay2, k0_pay3, rowOut, SoftmaxRow.neg_inf]

/-- The second head's stored tile at row `r`, lane `d`. -/
theorem tile1 (k v : FVec Ideal S1x4352x128 .bf16) (q : FVec Ideal S1x256x128 .bf16) (r : Fin 256) (d : Fin 128) :
    k0_pay8 (F := Ideal) (k0_pay3 v) (k0_pay6 k q) (k0_pay7 k q) (constant S256x128 .f32 0x00000000#32) (ix3 0 r d)
      = rowOut (fun j : Fin 4352 => ∑ e : Fin 128, q (ix3 0 r e) * k (ix3 0 j e)) (fun j => v (ix3 0 j d)) := by
  pointwise [k0_pay8, k0_pay7, k0_pay6, k0_pay5, k0_pay2, k0_pay3, rowOut, SoftmaxRow.neg_inf]

/-- The third head's stored tile at row `r`, lane `d`. -/
theorem tile2 (k v : FVec Ideal S1x4352x128 .bf16) (q : FVec Ideal S1x256x128 .bf16) (r : Fin 256) (d : Fin 128) :
    k0_pay9 (F := Ideal) (k0_pay2 k) (k0_pay3 v) q (ix3 0 r d)
      = rowOut (fun j : Fin 4352 => ∑ e : Fin 128, q (ix3 0 r e) * k (ix3 0 j e)) (fun j => v (ix3 0 j d)) := by
  pointwise [k0_pay9, k0_pay2, k0_pay3, rowOut, SoftmaxRow.neg_inf]

/-- The fourth head's stored tile at row `r`, lane `d`. -/
theorem tile3 (k v : FVec Ideal S1x4352x128 .bf16) (q : FVec Ideal S1x256x128 .bf16) (r : Fin 256) (d : Fin 128) :
    k0_pay1 (F := Ideal) (k0_pay11 (k0_pay2 k) (k0_pay3 v) q) (k0_pay12 (k0_pay2 k) q) (ix3 0 r d)
      = rowOut (fun j : Fin 4352 => ∑ e : Fin 128, q (ix3 0 r e) * k (ix3 0 j e)) (fun j => v (ix3 0 j d)) := by
  pointwise [k0_pay1, k0_pay10, k0_pay11, k0_pay12, k0_pay2, k0_pay3, rowOut, SoftmaxRow.neg_inf]

end Cert.Att

end
-- ==== Proof.Att.Array.lean ====
/- The attention call's result array: every element is one softmax row over the argument arrays. -/
module

public import proofs.«01_k».proof.Proof.Gen.KernelIdeal.Frame
public import proofs.«01_k».proof.Proof.Att.Tile

@[expose] public section

set_option maxRecDepth 16384

noncomputable section

namespace Cert.Att

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The attention over whole arrays: output `(b, i, l)` belongs to query head `l / 128`, whose keys and values are
    those of group `l / 512`; the queries carry the scale. -/
def ATT (Q : FVec Ideal S2x4352x1024 .f32) (K V : FVec Ideal S2x4352x256 .f32) (b : Fin 2) (i : Fin 4096) (l : Fin 1024) : EReal :=
  rowOut
    (fun j : Fin 4352 => ∑ e : Fin 128,
      (Q (ix3 b ⟨i, by omega⟩ ⟨l / 128 * 128 + e, by omega⟩) * Ideal.ofBits .f32 0x3DB504F3#32)
        * K (ix3 b j ⟨l / 512 * 128 + e, by omega⟩))
    (fun j => V (ix3 b j ⟨l / 512 * 128 + l % 128, by omega⟩))

/-- Two rows agree when their scores and their values do. -/
theorem rowOut_congr {n : ℕ} {s s' v v' : Fin n → EReal} (hs : ∀ j, s j = s' j) (hv : ∀ j, v j = v' j) :
    rowOut s v = rowOut s' v' := by
  rw [funext hs, funext hv]

/-- The windows' block indices at every grid point. -/
theorem idx : ∀ t : Fin cfg0.N, win0_0.index t = ![t.val / 32, t.val % 16, t.val / 16 % 2]
    ∧ win0_1.index t = ![t.val / 32, 0, t.val / 16 % 2] ∧ win0_2.index t = ![t.val / 32, 0, t.val / 16 % 2]
    ∧ win0_3.index t = ![t.val / 32, t.val % 16, t.val / 16 % 2] :=
  (by decide +kernel : ∀ t : Fin grid0.N, _)

/-- The queries the region reads are the argument's times the scale. -/
theorem V_q (c : Dev nD) (i : S2x4352x1024.Idx) :
    V m c main_v2 i = (show FVec Ideal S2x4352x1024 .f32 from m ((c : Thread nD τ).loc main_arg0)) i * Ideal.ofBits .f32 0x3DB504F3#32 := by
  entry_read
  pointwise

/-- The head at lane offset `o` of the block of point `t`, at row `r` and lane `d`, is the attention at the array index it sits at. -/
theorem core (c : Dev nD) (t : Fin cfg0.N) (o : ℕ) (ho : o = 0 ∨ o = 128 ∨ o = 256 ∨ o = 384) (r : Fin 256) (d : Fin 128) (b : Fin 2) (i : Fin 4096) (l : Fin 1024)
    (hb : (b : ℕ) = t.val / 32) (hi : (i : ℕ) = t.val % 16 * 256 + r) (hl : (l : ℕ) = t.val / 16 % 2 * 512 + (o + d)) :
    rowOut (fun j : Fin 4352 => ∑ e : Fin 128, (show FVec Ideal S1x256x512 .bf16 from iblk m c 0 t) (ix3 0 r ⟨o + e, by omega⟩)
        * (show FVec Ideal S1x4352x128 .bf16 from iblk m c 1 t) (ix3 0 j e))
      (fun j => (show FVec Ideal S1x4352x128 .bf16 from iblk m c 2 t) (ix3 0 j d))
      = ATT (m ((c : Thread nD τ).loc main_arg0)) (m ((c : Thread nD τ).loc main_arg1)) (m ((c : Thread nD τ).loc main_arg2)) b i l := by
  refine rowOut_congr (fun j => Fin.sum_fin_congr fun e => Ideal.mul_congr ?_ ?_) (fun j => ?_)
  · show iblk m c 0 t (ix3 0 r ⟨o + e, by omega⟩) = _
    blk_simp [iblk]
    refine (V_q m c _).trans (Ideal.mul_congr ?_ rfl)
    blk_ext [idx t]
  · show iblk m c 1 t (ix3 0 j e) = _
    blk_point [iblk, V, idx t]
  · show iblk m c 2 t (ix3 0 j d) = _
    blk_point [iblk, V, idx t]

set_option maxHeartbeats 1600000 in
/-- What the body stores at block index `y` of point `t` is the attention at the array index `y` sits at. -/
theorem point (c : Dev nD) (t : Fin cfg0.N) (y : S1x256x512.Idx) :
    out0_3 (iblk m c 0 t) (iblk m c 1 t) (iblk m c 2 t) y
      = (fun i : S2x4096x1024.Idx => ATT (m ((c : Thread nD τ).loc main_arg0)) (m ((c : Thread nD τ).loc main_arg1)) (m ((c : Thread nD τ).loc main_arg2)) (i 0) (i 1) (i 2))
          (((cfg0.win 3).blk t).view.emb y) := by
  frame_out
  canon_tiles x h
  case piece0 =>
    rw [show x = ix3 0 (x 1) (x 2) by idx_ext]
    refine (tile3 (View.ld (iblk m c 1 t) r0_0) (View.ld (iblk m c 2 t) r0_0) (View.ld (iblk m c 0 t) r0_4) (x 1) (x 2)).trans ?_
    refine Eq.trans (rowOut_congr (fun j => Fin.sum_fin_congr fun e => ?_) (fun j => ?_)) (core m c t 384 (Or.inr (Or.inr (Or.inr rfl))) (x 1) (x 2) _ _ _ ?_ ?_ ?_)
    · pointwise
    · pointwise
    all_goals (blk_simp [idx t] <;> try omega)
  case piece1 =>
    rw [show x = ix3 0 (x 1) (x 2) by idx_ext]
    refine (tile2 (View.ld (iblk m c 1 t) r0_0) (View.ld (iblk m c 2 t) r0_0) (View.ld (iblk m c 0 t) r0_3) (x 1) (x 2)).trans ?_
    refine Eq.trans (rowOut_congr (fun j => Fin.sum_fin_congr fun e => ?_) (fun j => ?_)) (core m c t 256 (Or.inr (Or.inr (Or.inl rfl))) (x 1) (x 2) _ _ _ ?_ ?_ ?_)
    · pointwise
    · pointwise
    all_goals (blk_simp [idx t] <;> try omega)
  case piece2 =>
    rw [show x = ix3 0 (x 1) (x 2) by idx_ext]
    refine (tile1 (iblk m c 1 t) (View.ld (iblk m c 2 t) r0_0) (View.ld (iblk m c 0 t) r0_2) (x 1) (x 2)).trans ?_
    refine Eq.trans (rowOut_congr (fun j => Fin.sum_fin_congr fun e => ?_) (fun j => ?_)) (core m c t 128 (Or.inr (Or.inl rfl)) (x 1) (x 2) _ _ _ ?_ ?_ ?_)
    · pointwise
    · pointwise
    all_goals (blk_simp [idx t] <;> try omega)
  case piece3 =>
    rw [show x = ix3 0 (x 1) (x 2) by idx_ext]
    refine (tile0 (iblk m c 1 t) (iblk m c 2 t) (View.ld (iblk m c 0 t) r0_1) (x 1) (x 2)).trans ?_
    refine Eq.trans (rowOut_congr (fun j => Fin.sum_fin_congr fun e => ?_) (fun j => ?_)) (core m c t 0 (Or.inl rfl) (x 1) (x 2) _ _ _ ?_ ?_ ?_)
    · pointwise
      try blk_ext
    · pointwise
      try blk_ext
    all_goals (blk_simp [idx t] <;> try omega)

/-- The result array after the run. -/
theorem final (c : Dev nD) : (dats m 0 c).arrAt 3 (cfgs 0).N
    = fun i : S2x4096x1024.Idx => ATT (m ((c : Thread nD τ).loc main_arg0)) (m ((c : Thread nD τ).loc main_arg1)) (m ((c : Thread nD τ).loc main_arg2)) (i 0) (i 1) (i 2) := by
  refine (dats m 0 c).arrAt_eq_of_covers 3 _ (by decide +kernel) fun t _ y => ?_
  blk_simp
  rw [after0_3]
  exact point m c t y

end Cert.Att

end
-- ==== Proof.Att.Ref.lean ====
/- The attention reference read at an index, and its agreement with the attention of the kernel's array when the
   queries and the keys are finite. -/
module

public import proofs.«01_k».proof.Proof.Gen.ReferenceIdeal.Read
public import proofs.«01_k».proof.Proof.Att.Array
public import proofs.«01_k».proof.Pre_qk_finite

@[expose] public section

set_option maxRecDepth 16384

noncomputable section

namespace Cert.Att

open Idealize.ShloMosaic Idealize.ShloMosaic.TcCoe Idealize.SL.Sem
open Cert.ReferenceIdeal Cert.ReferenceIdeal.Gen Cert.ReferenceIdeal.Read

/-- The reference's score of query `i` and key `j` for kv head `h`, query head `g` of the group. -/
theorem score_at (Q : FVec Ideal S2x4352x1024 .f32) (K : FVec Ideal S2x4352x256 .f32) (b : Fin 2) (h : Fin 2) (g : Fin 4)
    (i : Fin 4096) (j : Fin 4352) :
    val_main_v7 (F := Ideal) Q K (ix5 b h g i j)
      = (∑ e : Fin 128, K (ix3 b j ⟨h * 128 + e, by omega⟩) * Q (ix3 b ⟨i, by omega⟩ ⟨h * 512 + g * 128 + e, by omega⟩))
          * Ideal.ofBits .f32 0x3DB504F3#32 := by
  pointwise [val_main_v7, val_main_v6, val_main_v5, val_main_v4, val_main_v2, val_main_v1, val_main_v0, val_main_cst]
  try blk_point []

/-- A host maximum over the last of five axes is the fold of `max` along it. -/
theorem reduce_max_last {n0 n1 n2 n3 n4 : ℕ} (X : (⟨5, ![n0, n1, n2, n3, n4]⟩ : Shape).Idx → EReal)
    (e : (⟨0, ![]⟩ : Shape).Idx → EReal)
    (h : (⟨5, ![n0, n1, n2, n3, n4]⟩ : Shape).ReducesTo [4] ⟨4, ![n0, n1, n2, n3]⟩) (hu : 0 < (⟨0, ![]⟩ : Shape).numel)
    (a : Fin n0) (b : Fin n1) (c : Fin n2) (d : Fin n3) :
    Host.reduce (FloatOps.maximumf (F := Ideal) (φ := .f32)) X e h hu (ix4 a b c d)
      = Finset.univ.fold max (e (Shape.Idx.first hu)) (fun k : Fin n4 => X (ix5 a b c d k)) := by
  rw [Host.reduce_eq_fold]
  exact Shape.ReducesTo.fold_fiber_r5_a4 h (ix4 a b c d) _ _ X

/-- The reference's row maximum. -/
theorem max_at (Q : FVec Ideal S2x4352x1024 .f32) (K : FVec Ideal S2x4352x256 .f32) (b : Fin 2) (h : Fin 2) (g : Fin 4)
    (i : Fin 4096) :
    val_main_v10 (F := Ideal) Q K (ix4 b h g i)
      = Finset.univ.fold max (⊥ : EReal) (fun j : Fin 4352 => val_main_v7 (F := Ideal) Q K (ix5 b h g i j)) := by
  rw [val_main_v10_apply, val_main_v9_apply]
  unfold val_main_v8
  generalize val_main_v7 (F := Ideal) Q K = X
  rw [reduce_max_last X _ _ _ b h g i]
  show max (Ideal.ofBits .f32 0xFF800000#32) (Finset.univ.fold max (Ideal.ofBits .f32 0xFF800000#32) _) = _
  rw [SoftmaxRow.neg_inf, max_eq_right bot_le]

/-- The reference's unnormalised weight. -/
theorem weight_at (Q : FVec Ideal S2x4352x1024 .f32) (K : FVec Ideal S2x4352x256 .f32) (b : Fin 2) (h : Fin 2) (g : Fin 4)
    (i : Fin 4096) (j : Fin 4352) :
    val_main_v14 (F := Ideal) Q K (ix5 b h g i j)
      = Ideal.exp (val_main_v7 (F := Ideal) Q K (ix5 b h g i j) - val_main_v10 (F := Ideal) Q K (ix4 b h g i)) := by
  unfold val_main_v14 val_main_v13 val_main_v12 val_main_v11
  generalize val_main_v7 (F := Ideal) Q K = X
  generalize val_main_v10 (F := Ideal) Q K = Y
  pointwise

/-- The reference's normalised weight. -/
theorem prob_at (Q : FVec Ideal S2x4352x1024 .f32) (K : FVec Ideal S2x4352x256 .f32) (b : Fin 2) (h : Fin 2) (g : Fin 4)
    (i : Fin 4096) (j : Fin 4352) :
    val_main_v18 (F := Ideal) Q K (ix5 b h g i j)
      = Ideal.div (val_main_v14 (F := Ideal) Q K (ix5 b h g i j)) (∑ l : Fin 4352, val_main_v14 (F := Ideal) Q K (ix5 b h g i l)) := by
  unfold val_main_v18 val_main_v17 val_main_v16 val_main_v15 val_main_cst_2
  generalize val_main_v14 (F := Ideal) Q K = X
  pointwise
  try rw [zero_add]

/-- The reference's result at `(b, i, l)`: the sum of the values over the normalised weights. -/
theorem out_at (Q : FVec Ideal S2x4352x1024 .f32) (K V : FVec Ideal S2x4352x256 .f32) (b : Fin 2) (i : Fin 4096) (l : Fin 1024) :
    val_main_v22 (F := Ideal) Q K V (ix3 b i l)
      = ∑ j : Fin 4352, V (ix3 b j ⟨l / 512 * 128 + l % 128, by omega⟩)
          * val_main_v18 (F := Ideal) Q K (ix5 b ⟨l / 512, by omega⟩ ⟨l / 128 % 4, by omega⟩ i j) := by
  unfold val_main_v22 val_main_v21 val_main_v20 val_main_v19 val_main_v3
  generalize val_main_v18 (F := Ideal) Q K = X
  pointwise
  try blk_point []

/-- THE EQUATION: where the queries and the keys are finite, the attention of the kernel's array is the reference's. -/
theorem att_eq_ref (Q : FVec Ideal S2x4352x1024 .f32) (K V : FVec Ideal S2x4352x256 .f32)
    (hQ : ∀ i, ∃ r : ℝ, Q i = (r : EReal)) (hK : ∀ i, ∃ r : ℝ, K i = (r : EReal)) (b : Fin 2) (i : Fin 4096) (l : Fin 1024) :
    ATT Q K V b i l = val_main_v22 (F := Ideal) Q K V (ix3 b i l) := by
  obtain ⟨σ, hσ, hc⟩ := SoftmaxRow.scale_real
  have hs : ∀ j : Fin 4352, (∑ e : Fin 128,
      (Q (ix3 b ⟨i, by omega⟩ ⟨l / 128 * 128 + e, by omega⟩) * Ideal.ofBits .f32 0x3DB504F3#32)
        * K (ix3 b j ⟨l / 512 * 128 + e, by omega⟩))
      = val_main_v7 (F := Ideal) Q K (ix5 b ⟨l / 512, by omega⟩ ⟨l / 128 % 4, by omega⟩ i j) := by
    intro j
    rw [score_at, hc, SoftmaxRow.sum_scaled _ _ σ hσ]
    refine congrArg (· * (σ : EReal)) (Finset.sum_congr rfl fun e _ => congrArg (K _ * ·) (congrArg Q ?_))
    exact congrArg (ix3 b _) (Fin.ext (by show (l : ℕ) / 128 * 128 + e = l / 512 * 512 + l / 128 % 4 * 128 + e; omega))
  have hfin : ∀ j : Fin 4352, ∃ r : ℝ,
      val_main_v7 (F := Ideal) Q K (ix5 b ⟨l / 512, by omega⟩ ⟨l / 128 % 4, by omega⟩ i j) = (r : EReal) := by
    intro j
    rw [score_at, hc]
    obtain ⟨s, hs⟩ := SoftmaxRow.real_sum (fun e : Fin 128 => K (ix3 b j ⟨l / 512 * 128 + e, by omega⟩)
        * Q (ix3 b ⟨i, by omega⟩ ⟨l / 512 * 512 + l / 128 % 4 * 128 + e, by omega⟩)) (fun e => by
      obtain ⟨x, hx⟩ := hK (ix3 b j ⟨l / 512 * 128 + e, by omega⟩)
      obtain ⟨y, hy⟩ := hQ (ix3 b ⟨i, by omega⟩ ⟨l / 512 * 512 + l / 128 % 4 * 128 + e, by omega⟩)
      exact ⟨x * y, by rw [hx, hy, EReal.coe_mul]⟩)
    refine ⟨s * σ, ?_⟩
    rw [EReal.coe_mul, ← hs]
  rw [out_at]
  unfold ATT rowOut
  rw [funext hs, SoftmaxRow.row _ _ hfin]
  refine Finset.sum_congr rfl fun j _ => congrArg (V _ * ·) ?_
  rw [prob_at]
  simp_rw [weight_at, max_at]

/-- The precondition says every query and every key is a real number. -/
theorem finite_of_pre [Cert.Pre_qk_finite.Facts] (Q : FVec Ideal S2x4352x1024 .f32) (K V : FVec Ideal S2x4352x256 .f32)
    (h : Cert.Pre_qk_finite.fn (F := Ideal) Q K V = fun _ => 1#1) :
    (∀ i, ∃ r : ℝ, Q i = (r : EReal)) ∧ (∀ i, ∃ r : ℝ, K i = (r : EReal)) := by
  have hp : ∀ (b : Fin 2) (r : Fin 4352) (l : Fin 1280), Cert.Pre_qk_finite.fn (F := Ideal) Q K V (ix3 b r l) = 1#1 := fun b r l => congrFun h _
  have hr : ∀ x : EReal, BitVec.ofBool (decide (FloatOps.absf (F := Ideal) (φ := .f32) x < Ideal.ofBits .f32 0x7F800000#32)) = 1#1 →
      ∃ r : ℝ, x = (r : EReal) := by
    intro x hx
    rw [SoftmaxRow.pos_inf] at hx
    by_cases hlt : FloatOps.absf (F := Ideal) (φ := .f32) x < (⊤ : EReal)
    · exact SoftmaxRow.real_of_abs_lt x hlt
    · rw [decide_eq_false hlt] at hx
      exact absurd hx (by decide)
  constructor
  · intro i
    idx_vars i
    have := hp i0 i1 ⟨i2, by omega⟩
    pointwise [Cert.Pre_qk_finite.fn] at this
    exact hr _ this
  · intro i
    idx_vars i
    have := hp i0 i1 ⟨1024 + i2, by omega⟩
    pointwise [Cert.Pre_qk_finite.fn] at this
    exact hr _ this

end Cert.Att

end
-- ==== Proof.ConvIn.Tile.lean ====
/- The convolution block's input call read at an index: a row is normed, modulated and multiplied, and one half of the
   product is gated by the other. -/
module

public import proofs.«01_k».proof.Proof.Gen.ConvInIdeal.Skeleton
public import Idealize.ShloMosaic.Lib.Pipeline.ValueKit

@[expose] public section

set_option maxRecDepth 16384

noncomputable section

namespace Cert.ConvInIdeal.Val

open Idealize.ShloMosaic Idealize.ShloMosaic.TcCoe Idealize.SL.Sem Cert.ConvInIdeal Cert.ConvInIdeal.Gen

/-- A row over the root of its mean square. -/
def nrm (X : Fin 2048 → EReal) (e : Fin 2048) : EReal :=
  X e * Ideal.rsqrt (Ideal.div (∑ k, X k * X k) (Ideal.ofBits .f32 0x45000000#32) + Ideal.ofBits .f32 0x358637BD#32)

/-- A column of the product of the normed row, modulated. -/
def col (X A B W : Fin 2048 → EReal) (b : EReal) : EReal := (∑ e, (nrm X e * A e + B e) * W e) + b

/-- The gated unit's output. -/
def glu (X A B W W' : Fin 2048 → EReal) (b b' : EReal) : EReal := col X A B W b * Ideal.logistic (col X A B W' b')

/-- What the body stores at row `r`, lane `d`. -/
theorem pay1_at (x : FVec Ideal S256x2048 .f32) (a s : FVec Ideal S1x1x2048 .f32) (w : FVec Ideal S2048x4096 .bf16) (b : FVec Ideal S1x4096 .f32)
    (r : Fin 256) (d : Fin 2048) :
    k0_pay1 (F := Ideal) x a s w b (ix2 r d)
      = glu (fun e => x (ix2 r e)) (fun e => a (ix3 0 0 e)) (fun e => s (ix3 0 0 e))
          (fun e => w (ix2 e ⟨d, by omega⟩)) (fun e => w (ix2 e ⟨2048 + d, by omega⟩)) (b (ix2 0 ⟨d, by omega⟩)) (b (ix2 0 ⟨2048 + d, by omega⟩)) := by
  pointwise [k0_pay1, glu, col, nrm]

end Cert.ConvInIdeal.Val

end
-- ==== Proof.ConvIn.Array.lean ====
/- The convolution block's input call's result array: every element is the gated unit of its row of the argument arrays. -/
module

public import proofs.«01_k».proof.Proof.Gen.ConvInIdeal.Frame
public import proofs.«01_k».proof.Proof.ConvIn.Tile

@[expose] public section

set_option maxRecDepth 16384

noncomputable section

namespace Cert.ConvInIdeal.Val

open Idealize.ShloMosaic Idealize.ShloMosaic.TcCoe Idealize.SL.Sem
open Idealize.ShloMosaic.Pipeline (Dat)
open Cert.ConvInIdeal Cert.ConvInIdeal.Gen

variable (m : (ℓ : Loc nD τ sig) → Buf (Elt Ideal) ℓ)

/-- The call over whole arrays: row `n` belongs to batch `n / 4096`, whose modulation rows scale and shift it. -/
def CV (x : FVec Ideal S8192x2048 .f32) (g : FVec Ideal S2048 .f32) (sc sh : FVec Ideal S8x2048 .f32) (w : FVec Ideal S2048x4096 .f32)
    (b : FVec Ideal S4096 .f32) (n : Fin 8192) (d : Fin 2048) : EReal :=
  glu (fun e => x (ix2 n e)) (fun e => g (ix1 e) * (1 + sc (ix2 ⟨n / 4096, by omega⟩ e))) (fun e => sh (ix2 ⟨n / 4096, by omega⟩ e))
    (fun e => w (ix2 e ⟨d, by omega⟩)) (fun e => w (ix2 e ⟨2048 + d, by omega⟩)) (b (ix1 ⟨d, by omega⟩)) (b (ix1 ⟨2048 + d, by omega⟩))

/-- Two outputs agree when what they are made of does. -/
theorem glu_congr {X X' A A' B B' W W' U U' : Fin 2048 → EReal} {b b' u u' : EReal} (hX : ∀ e, X e = X' e) (hA : ∀ e, A e = A' e)
    (hB : ∀ e, B e = B' e) (hW : ∀ e, W e = W' e) (hU : ∀ e, U e = U' e) (hb : b = b') (hu : u = u') :
    glu X A B W U b u = glu X' A' B' W' U' b' u' := by
  rw [funext hX, funext hA, funext hB, funext hW, funext hU, hb, hu]

/-- The windows' block indices at every grid point. -/
theorem idx : ∀ t : Fin cfg0.N, win0_0.index t = ![t.val, 0] ∧ win0_1.index t = ![t.val / 16, 0, 0] ∧ win0_2.index t = ![t.val / 16, 0, 0]
    ∧ win0_3.index t = ![0, 0] ∧ win0_4.index t = ![0, 0] ∧ win0_5.index t = ![t.val, 0] :=
  (by decide +kernel : ∀ t : Fin grid0.N, _)

/-- The scale the region reads. -/
theorem V_a (c : Dev nD) (j : Fin 8) (e : Fin 2048) :
    V m c main_v5 (ix3 j 0 e) = (show FVec Ideal S2048 .f32 from m ((c : Thread nD τ).loc main_arg1)) (ix1 e)
      * (1 + (show FVec Ideal S8x2048 .f32 from m ((c : Thread nD τ).loc main_arg2)) (ix2 j e)) := by
  entry_read
  pointwise

/-- The shift the region reads. -/
theorem V_s (c : Dev nD) (j : Fin 8) (e : Fin 2048) :
    V m c main_v6 (ix3 j 0 e) = (show FVec Ideal S8x2048 .f32 from m ((c : Thread nD τ).loc main_arg3)) (ix2 j e) := by
  entry_read
  pointwise

/-- The matrix the region reads. -/
theorem V_w (c : Dev nD) (i : S2048x4096.Idx) :
    V m c main_v7 i = (show FVec Ideal S2048x4096 .f32 from m ((c : Thread nD τ).loc main_arg4)) i := by
  entry_read
  pointwise

/-- The bias the region reads. -/
theorem V_b (c : Dev nD) (d : Fin 4096) :
    V m c main_v8 (ix2 0 d) = (show FVec Ideal S4096 .f32 from m ((c : Thread nD τ).loc main_arg5)) (ix1 d) := by
  entry_read
  pointwise

/-- What the body stores at row `r`, lane `d` of point `t`. -/
theorem core (c : Dev nD) (t : Fin cfg0.N) (r : Fin 256) (d : Fin 2048) (n : Fin 8192) (hn : n.val = t.val * 256 + r.val) :
    k0_pay1 (F := Ideal) (iblk m c 0 t) (iblk m c 1 t) (iblk m c 2 t) (iblk m c 3 t) (iblk m c 4 t) (ix2 r d)
      = CV (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) n d := by
  have hq : n.val / 4096 = t.val / 16 := by omega
  refine (pay1_at (iblk m c 0 t) (iblk m c 1 t) (iblk m c 2 t) (iblk m c 3 t) (iblk m c 4 t) r d).trans ?_
  unfold CV
  refine glu_congr (fun e => ?_) (fun e => ?_) (fun e => ?_) (fun e => ?_) (fun e => ?_) ?_ ?_
  · show iblk m c 0 t (ix2 r e) = _
    blk_point [iblk, V, idx t]
  · refine Eq.trans ?_ (V_a m c ⟨n / 4096, by omega⟩ e)
    show iblk m c 1 t (ix3 0 0 e) = _
    blk_simp [iblk]
    blk_ext [idx t]
  · refine Eq.trans ?_ (V_s m c ⟨n / 4096, by omega⟩ e)
    show iblk m c 2 t (ix3 0 0 e) = _
    blk_simp [iblk]
    blk_ext [idx t]
  · refine Eq.trans ?_ (V_w m c _)
    show iblk m c 3 t (ix2 e ⟨d, by omega⟩) = _
    blk_simp [iblk]
    blk_ext [idx t]
  · refine Eq.trans ?_ (V_w m c _)
    show iblk m c 3 t (ix2 e ⟨2048 + d, by omega⟩) = _
    blk_simp [iblk]
    blk_ext [idx t]
  · refine Eq.trans ?_ (V_b m c _)
    show iblk m c 4 t (ix2 0 ⟨d, by omega⟩) = _
    blk_simp [iblk]
    blk_ext [idx t]
  · refine Eq.trans ?_ (V_b m c _)
    show iblk m c 4 t (ix2 0 ⟨2048 + d, by omega⟩) = _
    blk_simp [iblk]
    blk_ext [idx t]

/-- What the body stores at block index `y` of point `t` is the result at the array index `y` sits at. -/
theorem point (c : Dev nD) (t : Fin cfg0.N) (y : S256x2048.Idx) :
    out0_5 (iblk m c 0 t) (iblk m c 1 t) (iblk m c 2 t) (iblk m c 3 t) (iblk m c 4 t) y
      = (fun i : S8192x2048.Idx => CV (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (i 0) (i 1))
          (((cfg0.win 5).blk t).view.emb y) := by
  frame_out
  rw [show y = ix2 (y 0) (y 1) by idx_ext]
  refine (core m c t (y 0) (y 1) ⟨t.val * 256 + (y 0).val, by have : t.val < 32 := t.isLt; have : (y 0).val < 256 := (y 0).isLt; omega⟩ rfl).trans ?_
  refine congrArg₂ (CV _ _ _ _ _ _) ?_ ?_
  all_goals (refine Fin.ext ?_; blk_simp [idx t] <;> try omega)

/-- The result array after the run. -/
theorem final (c : Dev nD) : (dats m 0 c).arrAt 5 (cfgs 0).N
    = fun i : S8192x2048.Idx => CV (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (i 0) (i 1) := by
  refine (dats m 0 c).arrAt_eq_of_covers 5 _ (by decide +kernel) fun t _ y => ?_
  blk_simp
  rw [after0_5]
  exact point m c t y

end Cert.ConvInIdeal.Val

end
-- ==== Proof.ConvIn.Ref.lean ====
/- The reference of the convolution block's input call read at an index, and its agreement with the call's array. -/
module

public import proofs.«01_k».proof.Proof.Gen.ConvInReferenceIdeal.Read
public import proofs.«01_k».proof.Proof.ConvIn.Array

@[expose] public section

set_option maxRecDepth 16384

noncomputable section

namespace Cert.ConvInIdeal.Ref

open Idealize.ShloMosaic Idealize.ShloMosaic.TcCoe Idealize.SL.Sem
open Cert.ConvInReferenceIdeal Cert.ConvInReferenceIdeal.Gen Cert.ConvInReferenceIdeal.Read

variable (x : FVec Ideal S8192x2048 .f32) (g : FVec Ideal S2048 .f32) (sc sh : FVec Ideal S8x2048 .f32) (w : FVec Ideal S2048x4096 .f32)
    (b : FVec Ideal S4096 .f32)

/-- The reference's rows, by batch. -/
theorem v0_at (i : Fin 2) (n : Fin 4096) (e : Fin 2048) : val_main_v0 (F := Ideal) x (ix3 i n e) = x (ix2 ⟨i * 4096 + n, by omega⟩ e) := by
  rw [val_main_v0_apply]
  refine congrArg x (funext fun a => Fin.ext ?_)
  match a with
  | ⟨0, _⟩ => show ((i.val * 4096 + n.val) * 2048 + e.val) / 2048 = i.val * 4096 + n.val; omega
  | ⟨1, _⟩ => show ((i.val * 4096 + n.val) * 2048 + e.val) % 2048 = e.val; omega

/-- The reference's normed row. -/
theorem v10_at (i : Fin 2) (n : Fin 4096) (e : Fin 2048) :
    val_main_v10 (F := Ideal) x (ix3 i n e) = Val.nrm (fun k => x (ix2 ⟨i * 4096 + n, by omega⟩ k)) e := by
  unfold Val.nrm
  simp_rw [← v0_at x i n]
  unfold val_main_v10 val_main_v9 val_main_v8 val_main_v7 val_main_v6 val_main_cst_1 val_main_v5 val_main_v4 val_main_cst_0 val_main_v3 val_main_v2 val_main_cst val_main_v1
  generalize val_main_v0 (F := Ideal) x = X
  pointwise

/-- The reference's normed row, modulated. -/
theorem v23_at (i : Fin 2) (n : Fin 4096) (e : Fin 2048) :
    val_main_v23 (F := Ideal) x g sc sh (ix3 i n e)
      = Val.nrm (fun k => x (ix2 ⟨i * 4096 + n, by omega⟩ k)) e * (g (ix1 e) * (1 + sc (ix2 ⟨i, by omega⟩ e))) + sh (ix2 ⟨i, by omega⟩ e) := by
  rw [← mul_assoc, ← v10_at x i n e]
  unfold val_main_v23 val_main_v22 val_main_v21 val_main_v20 val_main_v19 val_main_v18 val_main_v17 val_main_v16 val_main_cst_2 val_main_v15 val_main_v14 val_main_v13 val_main_v12 val_main_v11
  generalize val_main_v10 (F := Ideal) x = X
  pointwise

/-- The reference's product with the bias. -/
theorem v27_at (i : Fin 2) (n : Fin 4096) (d : Fin 4096) :
    val_main_v27 (F := Ideal) x g sc sh w b (ix3 i n d)
      = Val.col (fun k => x (ix2 ⟨i * 4096 + n, by omega⟩ k)) (fun e => g (ix1 e) * (1 + sc (ix2 ⟨i, by omega⟩ e))) (fun e => sh (ix2 ⟨i, by omega⟩ e))
          (fun e => w (ix2 e d)) (b (ix1 d)) := by
  unfold Val.col
  simp_rw [← v23_at x g sc sh i n]
  unfold val_main_v27 val_main_v26 val_main_v25 val_main_v24
  generalize val_main_v23 (F := Ideal) x g sc sh = X
  pointwise

/-- The reference's gated unit. -/
theorem v36_at (i : Fin 2) (n : Fin 4096) (d : Fin 2048) :
    val_main_v36 (F := Ideal) x g sc sh w b (ix3 i n d)
      = Val.CV x g sc sh w b ⟨i * 4096 + n, by omega⟩ d := by
  have hi : (⟨(i.val * 4096 + n.val) / 4096, by omega⟩ : Fin 8) = ⟨i.val, by omega⟩ := Fin.ext (by show (i.val * 4096 + n.val) / 4096 = i.val; omega)
  unfold Val.CV Val.glu
  simp only [hi]
  rw [← v27_at x g sc sh w b i n, ← v27_at x g sc sh w b i n]
  unfold val_main_v36 val_main_v35 val_main_v34 val_main_cst_4 val_main_v33 val_main_v32 val_main_cst_3 val_main_v31 val_main_v30 val_main_v29 val_main_v28
  generalize val_main_v27 (F := Ideal) x g sc sh w b = X
  pointwise
  try rfl

/-- What the call leaves is what the reference computes. -/
theorem same (i : S8192x2048.Idx) : Val.CV x g sc sh w b (i 0) (i 1) = val_main_v37 (F := Ideal) x g sc sh w b i := by
  idx_vars i
  have a1 : val_main_v37 (F := Ideal) x g sc sh w b (ix2 i0 i1)
      = val_main_v36 (F := Ideal) x g sc sh w b (ix3 ⟨i0 / 4096, by omega⟩ ⟨i0 % 4096, by omega⟩ i1) := by
    rw [val_main_v37_apply]
    refine congrArg _ (funext fun a => Fin.ext ?_)
    match a with
    | ⟨0, _⟩ => show (i0.val * 2048 + i1.val) / 8388608 = i0.val / 4096; omega
    | ⟨1, _⟩ => show (i0.val * 2048 + i1.val) / 2048 % 4096 = i0.val % 4096; omega
    | ⟨2, _⟩ => show (i0.val * 2048 + i1.val) % 2048 = i1.val; omega
  rw [a1, v36_at]
  exact congrArg (fun k => Val.CV x g sc sh w b k i1) (Fin.ext (by show i0.val = i0.val / 4096 * 4096 + i0.val % 4096; omega))

end Cert.ConvInIdeal.Ref

end
-- ==== Proof.ExpBits.Body.lean ====
/- The experts' body, run once per way its two conditions can fall: what it leaves in the output block and in the scratch. -/
module

public import proofs.«01_k».proof.Proof.Gen.Experts.Skeleton
public import proofs.«01_k».proof.Proof.Gen.Experts.Launch
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.VecWindow
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.PureOps.BitExact
public import Idealize.ShloMosaic.Adequacy
public import Idealize.ShloMosaic.Init

@[expose] public section

set_option maxRecDepth 16384
set_option Elab.async false

noncomputable section

namespace Cert.Experts.Exp

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The logic's model at this program. -/
local notation "𝕄" => MT nD τ sig Unit (Elt Bits) ℕ (UR sig nD τ) ℕ

/-- The table of blocks' experts, the number of blocks in use, and the scratch, as the body gets them. -/
abbrev beM : Memref sig .tc .smem S160 .i32 := Memref.whole main_arg0
abbrev nuM : Memref sig .tc .smem S1 .i32 := Memref.whole main_arg1
abbrev scM : Memref sig .tc .vmem S1024x2048 .bf16 := Memref.whole cc0_scratch0

/-- The words the body reads at a point: the expert of its block, the expert of the block before, the count. -/
abbrev beHere (i : grid0.Coords) (T0 : S160.Idx → Elt Bits .i32) : BitVec 32 :=
  View.readAt (Elt Bits) beM.view (Rect.unit (s := S160) (k0_off1 i) S1.size (k0_off1_inb i)).toLoadRect T0
    (Shape.Idx.first (numel1_S1.symm ▸ Nat.one_pos))
abbrev bePrev (i : grid0.Coords) (T0 : S160.Idx → Elt Bits .i32) : BitVec 32 :=
  View.readAt (Elt Bits) beM.view (Rect.unit (s := S160) (k0_off2 i) S1.size (k0_off2_inb i)).toLoadRect T0
    (Shape.Idx.first (numel1_S1.symm ▸ Nat.one_pos))
abbrev nuHere (T1 : S1.Idx → Elt Bits .i32) : BitVec 32 :=
  View.readAt (Elt Bits) nuM.view (Rect.unit (s := S1) ![0] S1.size inb_S1_S1_0).toLoadRect T1
    (Shape.Idx.first (numel1_S1.symm ▸ Nat.one_pos))

/-- The first condition: the block's expert is not the one whose weights the scratch holds. -/
abbrev Fresh (i : grid0.Coords) (T0 : S160.Idx → Elt Bits .i32) : Prop :=
  Scalar.cmpi .ne (Scalar.extui (Scalar.ori (Scalar.cmpi .eq (BitVec.ofNat 32 (i 0).val) 0#32)
    (Scalar.cmpi .ne (beHere i T0) (bePrev i T0)))) 0#32 = 1#1
/-- The second condition: the block is in use; and the third: it is not. -/
abbrev Used (i : grid0.Coords) (T1 : S1.Idx → Elt Bits .i32) : Prop := k0_cond2 i (nuHere T1) = 1#1
abbrev Past (i : grid0.Coords) (T1 : S1.Idx → Elt Bits .i32) : Prop := k0_cond3 i (nuHere T1) = 1#1

/-- A box of a block of rows. -/
abbrev ln (x0 : S2x2048x128.Idx → Elt Bits .f32) (r : LoadRect S2x2048x128) : r.shape.Idx → Elt Bits .f32 := fun y => x0 (r.idx y)

/-- The clipped gate of a block of rows; -/
def gate (R : (r : LoadRect S2x2048x128) → r.shape.Idx → Elt Bits .f32) (x1 : S1x2048x1024.Idx → Elt Bits .bf16) (x3 : S1x1x1024.Idx → Elt Bits .f32) : FVec Bits S256x1024 .f32 :=
  k0_pay13 (k0_pay8 (R ⟨![0, 0, 0], S1x256x128.size, ![1, 8, 1], inb_S2x2048x128_S1x256x128_0_0_0_s_1_8_1⟩) (R ⟨![0, 1, 0], S1x256x128.size, ![1, 8, 1], inb_S2x2048x128_S1x256x128_0_1_0_s_1_8_1⟩) (R ⟨![0, 2, 0], S1x256x128.size, ![1, 8, 1], inb_S2x2048x128_S1x256x128_0_2_0_s_1_8_1⟩) (R ⟨![0, 3, 0], S1x256x128.size, ![1, 8, 1], inb_S2x2048x128_S1x256x128_0_3_0_s_1_8_1⟩) (R ⟨![0, 4, 0], S1x256x128.size, ![1, 8, 1], inb_S2x2048x128_S1x256x128_0_4_0_s_1_8_1⟩) (R ⟨![0, 5, 0], S1x256x128.size, ![1, 8, 1], inb_S2x2048x128_S1x256x128_0_5_0_s_1_8_1⟩) (R ⟨![0, 6, 0], S1x256x128.size, ![1, 8, 1], inb_S2x2048x128_S1x256x128_0_6_0_s_1_8_1⟩) (R ⟨![0, 7, 0], S1x256x128.size, ![1, 8, 1], inb_S2x2048x128_S1x256x128_0_7_0_s_1_8_1⟩))
    (k0_pay9 (R ⟨![1, 0, 0], S1x256x128.size, ![1, 8, 1], inb_S2x2048x128_S1x256x128_1_0_0_s_1_8_1⟩)) (k0_pay10 (R ⟨![1, 1, 0], S1x256x128.size, ![1, 8, 1], inb_S2x2048x128_S1x256x128_1_1_0_s_1_8_1⟩)) (k0_pay11 (R ⟨![1, 2, 0], S1x256x128.size, ![1, 8, 1], inb_S2x2048x128_S1x256x128_1_2_0_s_1_8_1⟩))
    (R ⟨![1, 3, 0], S1x256x128.size, ![1, 8, 1], inb_S2x2048x128_S1x256x128_1_3_0_s_1_8_1⟩) (R ⟨![1, 4, 0], S1x256x128.size, ![1, 8, 1], inb_S2x2048x128_S1x256x128_1_4_0_s_1_8_1⟩) (R ⟨![1, 5, 0], S1x256x128.size, ![1, 8, 1], inb_S2x2048x128_S1x256x128_1_5_0_s_1_8_1⟩) (R ⟨![1, 6, 0], S1x256x128.size, ![1, 8, 1], inb_S2x2048x128_S1x256x128_1_6_0_s_1_8_1⟩) (R ⟨![1, 7, 0], S1x256x128.size, ![1, 8, 1], inb_S2x2048x128_S1x256x128_1_7_0_s_1_8_1⟩) x1 x3
/-- the linear half, clipped from below. -/
def lin (R : (r : LoadRect S2x2048x128) → r.shape.Idx → Elt Bits .f32) (x2 : S1x2048x1024.Idx → Elt Bits .bf16) (x4 : S1x1x1024.Idx → Elt Bits .f32) : FVec Bits S256x1024 .f32 :=
  k0_pay14 (k0_pay8 (R ⟨![0, 0, 0], S1x256x128.size, ![1, 8, 1], inb_S2x2048x128_S1x256x128_0_0_0_s_1_8_1⟩) (R ⟨![0, 1, 0], S1x256x128.size, ![1, 8, 1], inb_S2x2048x128_S1x256x128_0_1_0_s_1_8_1⟩) (R ⟨![0, 2, 0], S1x256x128.size, ![1, 8, 1], inb_S2x2048x128_S1x256x128_0_2_0_s_1_8_1⟩) (R ⟨![0, 3, 0], S1x256x128.size, ![1, 8, 1], inb_S2x2048x128_S1x256x128_0_3_0_s_1_8_1⟩) (R ⟨![0, 4, 0], S1x256x128.size, ![1, 8, 1], inb_S2x2048x128_S1x256x128_0_4_0_s_1_8_1⟩) (R ⟨![0, 5, 0], S1x256x128.size, ![1, 8, 1], inb_S2x2048x128_S1x256x128_0_5_0_s_1_8_1⟩) (R ⟨![0, 6, 0], S1x256x128.size, ![1, 8, 1], inb_S2x2048x128_S1x256x128_0_6_0_s_1_8_1⟩) (R ⟨![0, 7, 0], S1x256x128.size, ![1, 8, 1], inb_S2x2048x128_S1x256x128_0_7_0_s_1_8_1⟩))
    (k0_pay9 (R ⟨![1, 0, 0], S1x256x128.size, ![1, 8, 1], inb_S2x2048x128_S1x256x128_1_0_0_s_1_8_1⟩)) (k0_pay10 (R ⟨![1, 1, 0], S1x256x128.size, ![1, 8, 1], inb_S2x2048x128_S1x256x128_1_1_0_s_1_8_1⟩)) (k0_pay11 (R ⟨![1, 2, 0], S1x256x128.size, ![1, 8, 1], inb_S2x2048x128_S1x256x128_1_2_0_s_1_8_1⟩))
    (R ⟨![1, 3, 0], S1x256x128.size, ![1, 8, 1], inb_S2x2048x128_S1x256x128_1_3_0_s_1_8_1⟩) (R ⟨![1, 4, 0], S1x256x128.size, ![1, 8, 1], inb_S2x2048x128_S1x256x128_1_4_0_s_1_8_1⟩) (R ⟨![1, 5, 0], S1x256x128.size, ![1, 8, 1], inb_S2x2048x128_S1x256x128_1_5_0_s_1_8_1⟩) (R ⟨![1, 6, 0], S1x256x128.size, ![1, 8, 1], inb_S2x2048x128_S1x256x128_1_6_0_s_1_8_1⟩) (R ⟨![1, 7, 0], S1x256x128.size, ![1, 8, 1], inb_S2x2048x128_S1x256x128_1_7_0_s_1_8_1⟩) x2 x4

/-- What the body stores of a block in use, from its blocks (the rows by what a box of them reads) and the weights the scratch holds, the last store first. -/
def yps (R : (r : LoadRect S2x2048x128) → r.shape.Idx → Elt Bits .f32) (x1 x2 : S1x2048x1024.Idx → Elt Bits .bf16) (x3 x4 : S1x1x1024.Idx → Elt Bits .f32)
    (sc : S1024x2048.Idx → Elt Bits .bf16) (x6 : S1x1x2048.Idx → Elt Bits .f32) : List (View.Piece (Elt Bits) S2x2048x128 .f32) :=
  [⟨⟨⟨![1, 7, 0], S1x256x128.size, ![1, 8, 1], inb_S2x2048x128_S1x256x128_1_7_0_s_1_8_1⟩, spos_1_8_1⟩, k0_pay6 (k0_pay27 (k0_pay16 (gate R x1 x3) (lin R x2 x4) k0_pay15 sc x6))⟩,
   ⟨⟨⟨![1, 6, 0], S1x256x128.size, ![1, 8, 1], inb_S2x2048x128_S1x256x128_1_6_0_s_1_8_1⟩, spos_1_8_1⟩, k0_pay5 (k0_pay27 (k0_pay16 (gate R x1 x3) (lin R x2 x4) k0_pay15 sc x6))⟩,
   ⟨⟨⟨![1, 5, 0], S1x256x128.size, ![1, 8, 1], inb_S2x2048x128_S1x256x128_1_5_0_s_1_8_1⟩, spos_1_8_1⟩, k0_pay4 (k0_pay27 (k0_pay16 (gate R x1 x3) (lin R x2 x4) k0_pay15 sc x6))⟩,
   ⟨⟨⟨![1, 4, 0], S1x256x128.size, ![1, 8, 1], inb_S2x2048x128_S1x256x128_1_4_0_s_1_8_1⟩, spos_1_8_1⟩, k0_pay3 (k0_pay27 (k0_pay16 (gate R x1 x3) (lin R x2 x4) k0_pay15 sc x6))⟩,
   ⟨⟨⟨![1, 3, 0], S1x256x128.size, ![1, 8, 1], inb_S2x2048x128_S1x256x128_1_3_0_s_1_8_1⟩, spos_1_8_1⟩, k0_pay2 (k0_pay31 (k0_pay16 (gate R x1 x3) (lin R x2 x4) k0_pay15 sc x6))⟩,
   ⟨⟨⟨![1, 2, 0], S1x256x128.size, ![1, 8, 1], inb_S2x2048x128_S1x256x128_1_2_0_s_1_8_1⟩, spos_1_8_1⟩, k0_pay30 (k0_pay16 (gate R x1 x3) (lin R x2 x4) k0_pay15 sc x6)⟩,
   ⟨⟨⟨![1, 1, 0], S1x256x128.size, ![1, 8, 1], inb_S2x2048x128_S1x256x128_1_1_0_s_1_8_1⟩, spos_1_8_1⟩, k0_pay29 (k0_pay16 (gate R x1 x3) (lin R x2 x4) k0_pay15 sc x6)⟩,
   ⟨⟨⟨![1, 0, 0], S1x256x128.size, ![1, 8, 1], inb_S2x2048x128_S1x256x128_1_0_0_s_1_8_1⟩, spos_1_8_1⟩, k0_pay28 (k0_pay16 (gate R x1 x3) (lin R x2 x4) k0_pay15 sc x6)⟩,
   ⟨⟨⟨![0, 7, 0], S1x256x128.size, ![1, 8, 1], inb_S2x2048x128_S1x256x128_0_7_0_s_1_8_1⟩, spos_1_8_1⟩, k0_pay26 (k0_pay17 (gate R x1 x3) (lin R x2 x4) k0_pay15 sc x6)⟩,
   ⟨⟨⟨![0, 6, 0], S1x256x128.size, ![1, 8, 1], inb_S2x2048x128_S1x256x128_0_6_0_s_1_8_1⟩, spos_1_8_1⟩, k0_pay25 (k0_pay17 (gate R x1 x3) (lin R x2 x4) k0_pay15 sc x6)⟩,
   ⟨⟨⟨![0, 5, 0], S1x256x128.size, ![1, 8, 1], inb_S2x2048x128_S1x256x128_0_5_0_s_1_8_1⟩, spos_1_8_1⟩, k0_pay24 (k0_pay17 (gate R x1 x3) (lin R x2 x4) k0_pay15 sc x6)⟩,
   ⟨⟨⟨![0, 4, 0], S1x256x128.size, ![1, 8, 1], inb_S2x2048x128_S1x256x128_0_4_0_s_1_8_1⟩, spos_1_8_1⟩, k0_pay23 (k0_pay22 (gate R x1 x3) (lin R x2 x4) k0_pay15 sc x6)⟩,
   ⟨⟨⟨![0, 3, 0], S1x256x128.size, ![1, 8, 1], inb_S2x2048x128_S1x256x128_0_3_0_s_1_8_1⟩, spos_1_8_1⟩, k0_pay21 (gate R x1 x3) (lin R x2 x4) k0_pay15 sc x6⟩,
   ⟨⟨⟨![0, 2, 0], S1x256x128.size, ![1, 8, 1], inb_S2x2048x128_S1x256x128_0_2_0_s_1_8_1⟩, spos_1_8_1⟩, k0_pay20 (gate R x1 x3) (lin R x2 x4) k0_pay15 sc x6⟩,
   ⟨⟨⟨![0, 1, 0], S1x256x128.size, ![1, 8, 1], inb_S2x2048x128_S1x256x128_0_1_0_s_1_8_1⟩, spos_1_8_1⟩, k0_pay19 (gate R x1 x3) (lin R x2 x4) k0_pay15 sc x6⟩,
   ⟨⟨⟨![0, 0, 0], S1x256x128.size, ![1, 8, 1], inb_S2x2048x128_S1x256x128_0_0_0_s_1_8_1⟩, spos_1_8_1⟩, k0_pay18 (gate R x1 x3) (lin R x2 x4) k0_pay15 sc x6⟩]
/-- What it stores of a block past the count. -/
def zps : List (View.Piece (Elt Bits) S2x2048x128 .f32) :=
  [⟨Rect.unit ![0, 0, 0] S2x2048x128.size inb_S2x2048x128_S2x2048x128_0_0_0, k0_pay7 (F := Bits)⟩]

/-- What the scratch holds, read whole. -/
abbrev held {c : Dev nD} (xa : Buf (Elt Bits) ((c : Thread nD τ).loc cc0_scratch0)) : S1024x2048.Idx → Elt Bits .bf16 :=
  View.readAt (Elt Bits) scM.view (Rect.unit ![0, 0] S1024x2048.size inb_S1024x2048_S1024x2048_0_0).toLoadRect xa

theorem readAt_rep_ln {sp : Space} (v : View sig .tc sp S2x2048x128 .f32) (x0 : S2x2048x128.Idx → Elt Bits .f32) (r : LoadRect S2x2048x128) :
    View.readAt (Elt Bits) v r (v.rep x0) = ln x0 r := by
  funext y; rw [View.readAt_apply, View.read_rep]

section Paths

variable (c : Dev nD) (i : grid0.Coords)
  (arg3 : Memref sig .tc .vmem S2x2048x128 .f32) (harg3 : arg3.IsWhole)
  (arg4 : Memref sig .tc .vmem S1x2048x1024 .bf16) (harg4 : arg4.IsWhole)
  (arg5 : Memref sig .tc .vmem S1x2048x1024 .bf16) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1x1024x2048 .f32) (harg8 : arg8.IsWhole)
  (arg9 : Memref sig .tc .vmem S1x1x2048 .f32) (harg9 : arg9.IsWhole)
  (arg10 : Memref sig .tc .vmem S2x2048x128 .f32) (harg10 : arg10.IsWhole)
  (T0 : S160.Idx → Elt Bits .i32) (T1 : S1.Idx → Elt Bits .i32)
  (x0 : S2x2048x128.Idx → Elt Bits .f32) (x1 x2 : S1x2048x1024.Idx → Elt Bits .bf16)
  (x3 x4 : S1x1x1024.Idx → Elt Bits .f32) (x5 : S1x1x1024x2048.Idx → Elt Bits .f32)
  (x6 : S1x1x2048.Idx → Elt Bits .f32)

/-- What the body is handed and hands back beside the output block and the scratch: its blocks and the tables. -/
abbrev Kept : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (arg7.view.loc (c : Thread nD τ) ↦[arg7.view.set]{fullShare} arg7.view.rep x4)
    ∗ (arg8.view.loc (c : Thread nD τ) ↦[arg8.view.set]{fullShare} arg8.view.rep x5)
    ∗ (arg9.view.loc (c : Thread nD τ) ↦[arg9.view.set]{fullShare} arg9.view.rep x6)
    ∗ (beM.view.loc (c : Thread nD τ) ↦{fullShare.right} T0)
    ∗ (nuM.view.loc (c : Thread nD τ) ↦{fullShare.right} T1))

/-- The body runs from its blocks, the tables and the scratch at `xa`, and leaves the stores `ps` in the output block
    and `sc` in the scratch. -/
def RunsTo (xa sc : Buf (Elt Bits) ((c : Thread nD τ).loc cc0_scratch0))
    (ps : List (View.Piece (Elt Bits) S2x2048x128 .f32)) : Prop :=
  ∀ K : PUnit → sProp 𝕄,
    iprop(Kept c arg3 arg4 arg5 arg6 arg7 arg8 arg9 T0 T1 x0 x1 x2 x3 x4 x5 x6
      ∗ (∃ d, owns (c : Thread nD τ) arg10 fullShare d)
      ∗ (scM.view.loc (c : Thread nD τ) ↦{fullShare} xa)
      ∗ (iprop(Kept c arg3 arg4 arg5 arg6 arg7 arg8 arg9 T0 T1 x0 x1 x2 x3 x4 x5 x6
          ∗ (∃ f, arg10.view.loc (c : Thread nD τ) ↦[arg10.view.set]{fullShare} arg10.view.writes (Elt Bits) f ps)
          ∗ (scM.view.loc (c : Thread nD τ) ↦{fullShare} sc)) -∗ K ⟨⟩))
    ⊢ wp frame (wpE (defs₀ (F := Bits)) Variants.none c none) Set.univ
        (cc0_moe_experts i beM (Memref.isWhole_whole _) nuM (Memref.isWhole_whole _) arg3 harg3 arg4 harg4 arg5 harg5
          arg6 harg6 arg7 harg7 arg8 harg8 arg9 harg9 arg10 harg10 scM (Memref.isWhole_whole _)) K

/-- The scratch after the block's weights are cast and stored over the whole of it. -/
abbrev scr : Buf (Elt Bits) ((c : Thread nD τ).loc cc0_scratch0) :=
  scM.view.writes (Elt Bits) scM.view.junk [⟨Rect.unit ![0, 0] S1024x2048.size inb_S1024x2048_S1024x2048_0_0, k0_pay1 (View.readAt (Elt Bits) arg8.view (Rect.unit ![0, 0, 0, 0] S1x1x1024x2048.size inb_S1x1x1024x2048_S1x1x1024x2048_0_0_0_0).toLoadRect (arg8.view.rep x5))⟩]

set_option backward.proofsInPublic true in
set_option maxHeartbeats 8000000 in
/-- New weights, a block in use. -/
def runFreshUsed (xa : Buf (Elt Bits) ((c : Thread nD τ).loc cc0_scratch0))
    (h1 : Fresh i T0) (h2 : Used i T1) (h3 : ¬Past i T1) :
    { ps // RunsTo c i arg3 harg3 arg4 harg4 arg5 harg5 arg6 harg6 arg7 harg7 arg8 harg8 arg9 harg9 arg10 harg10
      T0 T1 x0 x1 x2 x3 x4 x5 x6 xa (scr c arg8 x5) ps } :=
  ⟨_, fun K => by
    unfold owns
    rw [cc0_moe_experts_eq_skeleton]; unfold cc0_moe_experts_skel
    iintro ⟨⟨H0, H1, H2, H3, H4, H5, H6, HT0, HT1⟩, ⟨%d7, %f7, -, HO7⟩, HS0, Hk⟩
    have hS0 : scM.IsWhole := Memref.isWhole_whole _
    have hT0 : beM.IsWhole := Memref.isWhole_whole _
    have hT1 : nuM.IsWhole := Memref.isWhole_whole _
    sl_exec! (disch := first | (guard_target = Scalar.cmpi = _; exact h1) | (guard_target = k0_cond2 _ _ = _; exact h2) | (guard_target = ¬(k0_cond3 _ _ = _); exact h3))
    sl_step
    iapply Hk
    isplitl [H0 H1 H2 H3 H4 H5 H6 HT0 HT1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT0]; · iexact HT0
      iexact HT1
    isplitl [HO7]; · iexists _; iexact HO7
    iexact HS0⟩

/-- New weights, a block past the count: zeros are stored, and the weights in the scratch. -/
theorem runFreshPast (xa : Buf (Elt Bits) ((c : Thread nD τ).loc cc0_scratch0))
    (h1 : Fresh i T0) (h2 : ¬Used i T1) (h3 : Past i T1) :
    RunsTo c i arg3 harg3 arg4 harg4 arg5 harg5 arg6 harg6 arg7 harg7 arg8 harg8 arg9 harg9 arg10 harg10
      T0 T1 x0 x1 x2 x3 x4 x5 x6 xa (scr c arg8 x5)
      [⟨Rect.unit ![0, 0, 0] S2x2048x128.size inb_S2x2048x128_S2x2048x128_0_0_0, k0_pay7 (F := Bits)⟩] :=
  fun K => by
    unfold owns
    rw [cc0_moe_experts_eq_skeleton]; unfold cc0_moe_experts_skel
    iintro ⟨⟨H0, H1, H2, H3, H4, H5, H6, HT0, HT1⟩, ⟨%d7, %f7, -, HO7⟩, HS0, Hk⟩
    have hS0 : scM.IsWhole := Memref.isWhole_whole _
    have hT0 : beM.IsWhole := Memref.isWhole_whole _
    have hT1 : nuM.IsWhole := Memref.isWhole_whole _
    sl_exec! (disch := first | (guard_target = Scalar.cmpi = _; exact h1) | (guard_target = ¬(k0_cond2 _ _ = _); exact h2) | (guard_target = k0_cond3 _ _ = _; exact h3))
    sl_step
    iapply Hk
    isplitl [H0 H1 H2 H3 H4 H5 H6 HT0 HT1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT0]; · iexact HT0
      iexact HT1
    isplitl [HO7]; · iexists _; iexact HO7
    iexact HS0

set_option backward.proofsInPublic true in
set_option maxHeartbeats 8000000 in
/-- The weights kept, a block in use. -/
def runKeepUsed (xa : Buf (Elt Bits) ((c : Thread nD τ).loc cc0_scratch0))
    (h1 : ¬Fresh i T0) (h2 : Used i T1) (h3 : ¬Past i T1) :
    Σ' ps, { sc // RunsTo c i arg3 harg3 arg4 harg4 arg5 harg5 arg6 harg6 arg7 harg7 arg8 harg8 arg9 harg9 arg10 harg10
      T0 T1 x0 x1 x2 x3 x4 x5 x6 xa sc ps } :=
  ⟨_, _, fun K => by
    unfold owns
    rw [cc0_moe_experts_eq_skeleton]; unfold cc0_moe_experts_skel
    iintro ⟨⟨H0, H1, H2, H3, H4, H5, H6, HT0, HT1⟩, ⟨%d7, %f7, -, HO7⟩, HS0, Hk⟩
    have hS0 : scM.IsWhole := Memref.isWhole_whole _
    have hT0 : beM.IsWhole := Memref.isWhole_whole _
    have hT1 : nuM.IsWhole := Memref.isWhole_whole _
    sl_exec! (disch := first | (guard_target = ¬(Scalar.cmpi = _); exact h1) | (guard_target = k0_cond2 _ _ = _; exact h2) | (guard_target = ¬(k0_cond3 _ _ = _); exact h3))
    sl_step
    iapply Hk
    isplitl [H0 H1 H2 H3 H4 H5 H6 HT0 HT1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT0]; · iexact HT0
      iexact HT1
    isplitl [HO7]; · iexists _; iexact HO7
    iexact HS0⟩

/-- The weights kept, a block past the count: zeros are stored and the scratch is left alone. -/
theorem runKeepPast (xa : Buf (Elt Bits) ((c : Thread nD τ).loc cc0_scratch0))
    (h1 : ¬Fresh i T0) (h2 : ¬Used i T1) (h3 : Past i T1) :
    RunsTo c i arg3 harg3 arg4 harg4 arg5 harg5 arg6 harg6 arg7 harg7 arg8 harg8 arg9 harg9 arg10 harg10
      T0 T1 x0 x1 x2 x3 x4 x5 x6 xa xa
      [⟨Rect.unit ![0, 0, 0] S2x2048x128.size inb_S2x2048x128_S2x2048x128_0_0_0, k0_pay7 (F := Bits)⟩] :=
  fun K => by
    unfold owns
    rw [cc0_moe_experts_eq_skeleton]; unfold cc0_moe_experts_skel
    iintro ⟨⟨H0, H1, H2, H3, H4, H5, H6, HT0, HT1⟩, ⟨%d7, %f7, -, HO7⟩, HS0, Hk⟩
    have hS0 : scM.IsWhole := Memref.isWhole_whole _
    have hT0 : beM.IsWhole := Memref.isWhole_whole _
    have hT1 : nuM.IsWhole := Memref.isWhole_whole _
    sl_exec! (disch := first | (guard_target = ¬(Scalar.cmpi = _); exact h1) | (guard_target = ¬(k0_cond2 _ _ = _); exact h2) | (guard_target = k0_cond3 _ _ = _; exact h3))
    sl_step
    iapply Hk
    isplitl [H0 H1 H2 H3 H4 H5 H6 HT0 HT1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT0]; · iexact HT0
      iexact HT1
    isplitl [HO7]; · iexists _; iexact HO7
    iexact HS0

end Paths

end Cert.Experts.Exp

end
-- ==== Proof.ExpBits.Leaves.lean ====
/- What the experts' body leaves, as a function of the blocks it is handed and the weights in its scratch. -/
module

public import proofs.«01_k».proof.Proof.ExpBits.Body
public import proofs.«01_k».proof.Proof.Gen.Experts.Launch
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.VecWindow
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.PureOps.BitExact
public import Idealize.ShloMosaic.Adequacy
public import Idealize.ShloMosaic.Init

@[expose] public section

set_option maxRecDepth 16384
set_option Elab.async false

noncomputable section

namespace Cert.Experts.Exp

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The logic's model at this program. -/
local notation "𝕄" => MT nD τ sig Unit (Elt Bits) ℕ (UR sig nD τ) ℕ

section Paths

variable (c : Dev nD) (i : grid0.Coords)
  (arg3 : Memref sig .tc .vmem S2x2048x128 .f32) (harg3 : arg3.IsWhole)
  (arg4 : Memref sig .tc .vmem S1x2048x1024 .bf16) (harg4 : arg4.IsWhole)
  (arg5 : Memref sig .tc .vmem S1x2048x1024 .bf16) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1x1024x2048 .f32) (harg8 : arg8.IsWhole)
  (arg9 : Memref sig .tc .vmem S1x1x2048 .f32) (harg9 : arg9.IsWhole)
  (arg10 : Memref sig .tc .vmem S2x2048x128 .f32) (harg10 : arg10.IsWhole)
  (T0 : S160.Idx → Elt Bits .i32) (T1 : S1.Idx → Elt Bits .i32)
  (x0 : S2x2048x128.Idx → Elt Bits .f32) (x1 x2 : S1x2048x1024.Idx → Elt Bits .bf16)
  (x3 x4 : S1x1x1024.Idx → Elt Bits .f32) (x5 : S1x1x1024x2048.Idx → Elt Bits .f32)
  (x6 : S1x1x2048.Idx → Elt Bits .f32)

/-- A block not in use is past the count; -/
theorem past_of_not_used {i : grid0.Coords} {T1 : S1.Idx → Elt Bits .i32} (h : ¬Used i T1) : Past i T1 := by
  unfold Past Used k0_cond2 k0_cond3 at *
  generalize nuHere T1 = w at *
  generalize BitVec.ofNat 32 (i 0).val = v at *
  revert h
  simp only [Scalar.cmpi, Scalar.extui, IntOp.cmpi, BitVec.sle_eq_not_slt]
  generalize v.slt w = b
  revert b; decide

/-- one in use is not. -/
theorem not_past_of_used {i : grid0.Coords} {T1 : S1.Idx → Elt Bits .i32} (h : Used i T1) : ¬Past i T1 := by
  unfold Past Used k0_cond2 k0_cond3 at *
  generalize nuHere T1 = w at *
  generalize BitVec.ofNat 32 (i 0).val = v at *
  revert h
  simp only [Scalar.cmpi, Scalar.extui, IntOp.cmpi, BitVec.sle_eq_not_slt]
  generalize v.slt w = b
  revert b; decide

set_option maxHeartbeats 2000000 in
theorem freshUsed_ps (xa : Buf (Elt Bits) ((c : Thread nD τ).loc cc0_scratch0)) (h1 h2 h3) :
    (runFreshUsed c i arg3 harg3 arg4 harg4 arg5 harg5 arg6 harg6 arg7 harg7 arg8 harg8 arg9 harg9 arg10 harg10 T0 T1 x0 x1 x2 x3 x4 x5 x6 xa h1 h2 h3).1 = yps (ln x0) x1 x2 x3 x4 (k0_pay1 x5) x6 := by
  have e0 : (fun r => View.readAt (Elt Bits) arg3.view r (arg3.view.rep x0)) = ln x0 := funext fun r => readAt_rep_ln _ _ _
  have e1 : (View.readAt (Elt Bits) arg4.view (Rect.unit ![0, 0, 0] S1x2048x1024.size inb_S1x2048x1024_S1x2048x1024_0_0_0).toLoadRect (arg4.view.rep x1)) = x1 := View.readAt_rep_full _ _ _
  have e2 : (View.readAt (Elt Bits) arg5.view (Rect.unit ![0, 0, 0] S1x2048x1024.size inb_S1x2048x1024_S1x2048x1024_0_0_0).toLoadRect (arg5.view.rep x2)) = x2 := View.readAt_rep_full _ _ _
  have e3 : (View.readAt (Elt Bits) arg6.view (Rect.unit ![0, 0, 0] S1x1x1024.size inb_S1x1x1024_S1x1x1024_0_0_0).toLoadRect (arg6.view.rep x3)) = x3 := View.readAt_rep_full _ _ _
  have e4 : (View.readAt (Elt Bits) arg7.view (Rect.unit ![0, 0, 0] S1x1x1024.size inb_S1x1x1024_S1x1x1024_0_0_0).toLoadRect (arg7.view.rep x4)) = x4 := View.readAt_rep_full _ _ _
  have e6 : (View.readAt (Elt Bits) arg9.view (Rect.unit ![0, 0, 0] S1x1x2048.size inb_S1x1x2048_S1x1x2048_0_0_0).toLoadRect (arg9.view.rep x6)) = x6 := View.readAt_rep_full _ _ _
  have e5 : (scM.view.readCov (Val := Elt Bits) [⟨Rect.unit ![0, 0] S1024x2048.size inb_S1024x2048_S1024x2048_0_0, k0_pay1 (View.readAt (Elt Bits) arg8.view (Rect.unit ![0, 0, 0, 0] S1x1x1024x2048.size inb_S1x1x1024x2048_S1x1x1024x2048_0_0_0_0).toLoadRect (arg8.view.rep x5))⟩] (Rect.unit ![0, 0] S1024x2048.size inb_S1024x2048_S1024x2048_0_0).toLoadRect) = k0_pay1 x5 := by
    rw [View.readCov_full]
    exact congrArg (k0_pay1 (F := Bits)) (View.readAt_rep_full _ _ _)
  refine Eq.trans (b := yps (fun r => View.readAt (Elt Bits) arg3.view r (arg3.view.rep x0)) (View.readAt (Elt Bits) arg4.view (Rect.unit ![0, 0, 0] S1x2048x1024.size inb_S1x2048x1024_S1x2048x1024_0_0_0).toLoadRect (arg4.view.rep x1))
      (View.readAt (Elt Bits) arg5.view (Rect.unit ![0, 0, 0] S1x2048x1024.size inb_S1x2048x1024_S1x2048x1024_0_0_0).toLoadRect (arg5.view.rep x2)) (View.readAt (Elt Bits) arg6.view (Rect.unit ![0, 0, 0] S1x1x1024.size inb_S1x1x1024_S1x1x1024_0_0_0).toLoadRect (arg6.view.rep x3))
      (View.readAt (Elt Bits) arg7.view (Rect.unit ![0, 0, 0] S1x1x1024.size inb_S1x1x1024_S1x1x1024_0_0_0).toLoadRect (arg7.view.rep x4)) (scM.view.readCov (Val := Elt Bits) [⟨Rect.unit ![0, 0] S1024x2048.size inb_S1024x2048_S1024x2048_0_0, k0_pay1 (View.readAt (Elt Bits) arg8.view (Rect.unit ![0, 0, 0, 0] S1x1x1024x2048.size inb_S1x1x1024x2048_S1x1x1024x2048_0_0_0_0).toLoadRect (arg8.view.rep x5))⟩] (Rect.unit ![0, 0] S1024x2048.size inb_S1024x2048_S1024x2048_0_0).toLoadRect)
      (View.readAt (Elt Bits) arg9.view (Rect.unit ![0, 0, 0] S1x1x2048.size inb_S1x1x2048_S1x1x2048_0_0_0).toLoadRect (arg9.view.rep x6))) ?_ ?_
  · rfl
  · rw [e0, e1, e2, e3, e4, e6, e5]

theorem fresh_held (a : scM.view.ty.Contents (Elt Bits)) (w : S1024x2048.Idx → Elt Bits .bf16) (L : List (View.Piece (Elt Bits) S1024x2048 .bf16)) :
    View.readAt (Elt Bits) scM.view (Rect.unit ![0, 0] S1024x2048.size inb_S1024x2048_S1024x2048_0_0).toLoadRect
      (scM.view.writes (Elt Bits) a (⟨Rect.unit ![0, 0] S1024x2048.size inb_S1024x2048_S1024x2048_0_0, w⟩ :: L)) = w :=
  View.readAt_writes_full _ _ _ _ _ _

theorem held_scr : held (scr c arg8 x5) = k0_pay1 x5 := by
  unfold held scr
  rw [View.readAt_writes_full, View.readAt_rep_full]

set_option maxHeartbeats 2000000 in
theorem keepUsed_ps (xa : Buf (Elt Bits) ((c : Thread nD τ).loc cc0_scratch0)) (h1 h2 h3) :
    (runKeepUsed c i arg3 harg3 arg4 harg4 arg5 harg5 arg6 harg6 arg7 harg7 arg8 harg8 arg9 harg9 arg10 harg10 T0 T1 x0 x1 x2 x3 x4 x5 x6 xa h1 h2 h3).1 = yps (ln x0) x1 x2 x3 x4 (held xa) x6 := by
  have e0 : (fun r => View.readAt (Elt Bits) arg3.view r (arg3.view.rep x0)) = ln x0 := funext fun r => readAt_rep_ln _ _ _
  have e1 : (View.readAt (Elt Bits) arg4.view (Rect.unit ![0, 0, 0] S1x2048x1024.size inb_S1x2048x1024_S1x2048x1024_0_0_0).toLoadRect (arg4.view.rep x1)) = x1 := View.readAt_rep_full _ _ _
  have e2 : (View.readAt (Elt Bits) arg5.view (Rect.unit ![0, 0, 0] S1x2048x1024.size inb_S1x2048x1024_S1x2048x1024_0_0_0).toLoadRect (arg5.view.rep x2)) = x2 := View.readAt_rep_full _ _ _
  have e3 : (View.readAt (Elt Bits) arg6.view (Rect.unit ![0, 0, 0] S1x1x1024.size inb_S1x1x1024_S1x1x1024_0_0_0).toLoadRect (arg6.view.rep x3)) = x3 := View.readAt_rep_full _ _ _
  have e4 : (View.readAt (Elt Bits) arg7.view (Rect.unit ![0, 0, 0] S1x1x1024.size inb_S1x1x1024_S1x1x1024_0_0_0).toLoadRect (arg7.view.rep x4)) = x4 := View.readAt_rep_full _ _ _
  have e6 : (View.readAt (Elt Bits) arg9.view (Rect.unit ![0, 0, 0] S1x1x2048.size inb_S1x1x2048_S1x1x2048_0_0_0).toLoadRect (arg9.view.rep x6)) = x6 := View.readAt_rep_full _ _ _
  refine Eq.trans (b := yps (fun r => View.readAt (Elt Bits) arg3.view r (arg3.view.rep x0)) (View.readAt (Elt Bits) arg4.view (Rect.unit ![0, 0, 0] S1x2048x1024.size inb_S1x2048x1024_S1x2048x1024_0_0_0).toLoadRect (arg4.view.rep x1))
      (View.readAt (Elt Bits) arg5.view (Rect.unit ![0, 0, 0] S1x2048x1024.size inb_S1x2048x1024_S1x2048x1024_0_0_0).toLoadRect (arg5.view.rep x2)) (View.readAt (Elt Bits) arg6.view (Rect.unit ![0, 0, 0] S1x1x1024.size inb_S1x1x1024_S1x1x1024_0_0_0).toLoadRect (arg6.view.rep x3))
      (View.readAt (Elt Bits) arg7.view (Rect.unit ![0, 0, 0] S1x1x1024.size inb_S1x1x1024_S1x1x1024_0_0_0).toLoadRect (arg7.view.rep x4)) (held xa)
      (View.readAt (Elt Bits) arg9.view (Rect.unit ![0, 0, 0] S1x1x2048.size inb_S1x1x2048_S1x1x2048_0_0_0).toLoadRect (arg9.view.rep x6))) ?_ ?_
  · rfl
  · rw [e0, e1, e2, e3, e4, e6]

open Classical in
/-- The stores of a point: of its block, or zeros. -/
def bps (i : grid0.Coords) (T1 : S1.Idx → Elt Bits .i32) (x0 : S2x2048x128.Idx → Elt Bits .f32) (x1 x2 : S1x2048x1024.Idx → Elt Bits .bf16)
    (x3 x4 : S1x1x1024.Idx → Elt Bits .f32) (x5 : S1x1x1024x2048.Idx → Elt Bits .f32) (x6 : S1x1x2048.Idx → Elt Bits .f32) :
    List (View.Piece (Elt Bits) S2x2048x128 .f32) :=
  if Used i T1 then yps (ln x0) x1 x2 x3 x4 (k0_pay1 x5) x6 else zps

set_option maxHeartbeats 2000000 in
/-- THE BODY: if the weights are new, or the scratch already holds the block's, it stores what the block's blocks say and leaves the
    block's weights in the scratch. -/
theorem body (xa : Buf (Elt Bits) ((c : Thread nD τ).loc cc0_scratch0)) (hxa : ¬Fresh i T0 → held xa = k0_pay1 x5) :
    ∃ sc : Buf (Elt Bits) ((c : Thread nD τ).loc cc0_scratch0), held sc = k0_pay1 x5 ∧
      RunsTo c i arg3 harg3 arg4 harg4 arg5 harg5 arg6 harg6 arg7 harg7 arg8 harg8 arg9 harg9 arg10 harg10
        T0 T1 x0 x1 x2 x3 x4 x5 x6 xa sc (bps i T1 x0 x1 x2 x3 x4 x5 x6) := by
  unfold bps
  have aux : ∀ (P : List (View.Piece (Elt Bits) S2x2048x128 .f32))
      (r : Σ' ps, { sc // RunsTo c i arg3 harg3 arg4 harg4 arg5 harg5 arg6 harg6 arg7 harg7 arg8 harg8 arg9 harg9 arg10 harg10 T0 T1 x0 x1 x2 x3 x4 x5 x6 xa sc ps }), r.1 = P → held r.2.1 = k0_pay1 x5 →
      ∃ sc : Buf (Elt Bits) ((c : Thread nD τ).loc cc0_scratch0), held sc = k0_pay1 x5 ∧ RunsTo c i arg3 harg3 arg4 harg4 arg5 harg5 arg6 harg6 arg7 harg7 arg8 harg8 arg9 harg9 arg10 harg10 T0 T1 x0 x1 x2 x3 x4 x5 x6 xa sc P := by
    rintro P ⟨ps, sc, h⟩ e1 e2
    subst e1
    exact ⟨sc, e2, h⟩
  by_cases h1 : Fresh i T0 <;> by_cases h2 : Used i T1
  · have h3 := not_past_of_used h2
    rw [if_pos h2]
    exact ⟨_, held_scr c arg8 x5, by rw [← freshUsed_ps c i arg3 harg3 arg4 harg4 arg5 harg5 arg6 harg6 arg7 harg7 arg8 harg8 arg9 harg9 arg10 harg10 T0 T1 x0 x1 x2 x3 x4 x5 x6 xa h1 h2 h3]; exact (runFreshUsed c i arg3 harg3 arg4 harg4 arg5 harg5 arg6 harg6 arg7 harg7 arg8 harg8 arg9 harg9 arg10 harg10 T0 T1 x0 x1 x2 x3 x4 x5 x6 xa h1 h2 h3).2⟩
  · have h3 := past_of_not_used h2
    rw [if_neg h2]
    exact ⟨_, held_scr c arg8 x5, runFreshPast c i arg3 harg3 arg4 harg4 arg5 harg5 arg6 harg6 arg7 harg7 arg8 harg8 arg9 harg9 arg10 harg10 T0 T1 x0 x1 x2 x3 x4 x5 x6 xa h1 h2 h3⟩
  · have h3 := not_past_of_used h2
    rw [if_pos h2]
    exact aux _ (runKeepUsed c i arg3 harg3 arg4 harg4 arg5 harg5 arg6 harg6 arg7 harg7 arg8 harg8 arg9 harg9 arg10 harg10 T0 T1 x0 x1 x2 x3 x4 x5 x6 xa h1 h2 h3) ((keepUsed_ps c i arg3 harg3 arg4 harg4 arg5 harg5 arg6 harg6 arg7 harg7 arg8 harg8 arg9 harg9 arg10 harg10 T0 T1 x0 x1 x2 x3 x4 x5 x6 xa h1 h2 h3).trans (by rw [hxa h1])) (hxa h1)
  · have h3 := past_of_not_used h2
    rw [if_neg h2]
    exact ⟨xa, hxa h1, runKeepPast c i arg3 harg3 arg4 harg4 arg5 harg5 arg6 harg6 arg7 harg7 arg8 harg8 arg9 harg9 arg10 harg10 T0 T1 x0 x1 x2 x3 x4 x5 x6 xa h1 h2 h3⟩

end Paths

end Cert.Experts.Exp

end
-- ==== Proof.ExpBits.Frame.lean ====
/- The experts' launch at any tables that keep every block inside its array: what each point finds and leaves, and the run. -/
module

public import proofs.«01_k».proof.Proof.ExpBits.Leaves

@[expose] public section

set_option maxRecDepth 16384
set_option Elab.async false

noncomputable section

namespace Cert.Experts.Exp

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The logic's model at this program. -/
local notation "𝕄" => MT nD τ sig Unit (Elt Bits) ℕ (UR sig nD τ) ℕ

/-- The stores of a block in use reach every entry of the output block: row `y1`'s lane group is `y1 % 8`. -/
theorem yps_cover (R : (r : LoadRect S2x2048x128) → r.shape.Idx → Elt Bits .f32) (x1 x2 : S1x2048x1024.Idx → Elt Bits .bf16) (x3 x4 : S1x1x1024.Idx → Elt Bits .f32)
    (sc : S1024x2048.Idx → Elt Bits .bf16) (x6 : S1x1x2048.Idx → Elt Bits .f32) (y : S2x2048x128.Idx) :
    ∃ p ∈ yps R x1 x2 x3 x4 sc x6, y ∈ p.1.set := by
  have hy0 : (y 0).val < 2 := (y 0).isLt
  have hy1 : (y 1).val < 2048 := (y 1).isLt
  have hy2 : (y 2).val < 128 := (y 2).isLt
  have mem : ∀ (h j : ℕ) (hb), (y 0).val = h → (y 1).val % 8 = j →
      y ∈ (⟨![h, j, 0], S1x256x128.size, ![1, 8, 1], hb⟩ : LoadRect S2x2048x128).set := by
    intro h j hb e0 e1
    refine LoadRect.mem_set _ |>.mpr fun a => ?_
    fin_cases a
    · exact ⟨0, Nat.one_pos, by simpa using e0⟩
    · exact ⟨(y 1).val / 8, show (y 1).val / 8 < 256 by omega, show (y 1).val = j + 8 * ((y 1).val / 8) by omega⟩
    · exact ⟨(y 2).val, hy2, show (y 2).val = 0 + 1 * (y 2).val by omega⟩
  unfold yps
  rcases (show (y 0).val = 0 ∨ (y 0).val = 1 by omega) with e0 | e0 <;>
  rcases (show (y 1).val % 8 = 0 ∨ (y 1).val % 8 = 1 ∨ (y 1).val % 8 = 2 ∨ (y 1).val % 8 = 3 ∨ (y 1).val % 8 = 4 ∨ (y 1).val % 8 = 5 ∨ (y 1).val % 8 = 6 ∨ (y 1).val % 8 = 7 by omega) with e1 | e1 | e1 | e1 | e1 | e1 | e1 | e1
  · exact ⟨_, .tail _ (.tail _ (.tail _ (.tail _ (.tail _ (.tail _ (.tail _ (.tail _ (.tail _ (.tail _ (.tail _ (.tail _ (.tail _ (.tail _ (.tail _ (.head _))))))))))))))), mem 0 0 _ e0 e1⟩
  · exact ⟨_, .tail _ (.tail _ (.tail _ (.tail _ (.tail _ (.tail _ (.tail _ (.tail _ (.tail _ (.tail _ (.tail _ (.tail _ (.tail _ (.tail _ (.head _)))))))))))))), mem 0 1 _ e0 e1⟩
  · exact ⟨_, .tail _ (.tail _ (.tail _ (.tail _ (.tail _ (.tail _ (.tail _ (.tail _ (.tail _ (.tail _ (.tail _ (.tail _ (.tail _ (.head _))))))))))))), mem 0 2 _ e0 e1⟩
  · exact ⟨_, .tail _ (.tail _ (.tail _ (.tail _ (.tail _ (.tail _ (.tail _ (.tail _ (.tail _ (.tail _ (.tail _ (.tail _ (.head _)))))))))))), mem 0 3 _ e0 e1⟩
  · exact ⟨_, .tail _ (.tail _ (.tail _ (.tail _ (.tail _ (.tail _ (.tail _ (.tail _ (.tail _ (.tail _ (.tail _ (.head _))))))))))), mem 0 4 _ e0 e1⟩
  · exact ⟨_, .tail _ (.tail _ (.tail _ (.tail _ (.tail _ (.tail _ (.tail _ (.tail _ (.tail _ (.tail _ (.head _)))))))))), mem 0 5 _ e0 e1⟩
  · exact ⟨_, .tail _ (.tail _ (.tail _ (.tail _ (.tail _ (.tail _ (.tail _ (.tail _ (.tail _ (.head _))))))))), mem 0 6 _ e0 e1⟩
  · exact ⟨_, .tail _ (.tail _ (.tail _ (.tail _ (.tail _ (.tail _ (.tail _ (.tail _ (.head _)))))))), mem 0 7 _ e0 e1⟩
  · exact ⟨_, .tail _ (.tail _ (.tail _ (.tail _ (.tail _ (.tail _ (.tail _ (.head _))))))), mem 1 0 _ e0 e1⟩
  · exact ⟨_, .tail _ (.tail _ (.tail _ (.tail _ (.tail _ (.tail _ (.head _)))))), mem 1 1 _ e0 e1⟩
  · exact ⟨_, .tail _ (.tail _ (.tail _ (.tail _ (.tail _ (.head _))))), mem 1 2 _ e0 e1⟩
  · exact ⟨_, .tail _ (.tail _ (.tail _ (.tail _ (.head _)))), mem 1 3 _ e0 e1⟩
  · exact ⟨_, .tail _ (.tail _ (.tail _ (.head _))), mem 1 4 _ e0 e1⟩
  · exact ⟨_, .tail _ (.tail _ (.head _)), mem 1 5 _ e0 e1⟩
  · exact ⟨_, .tail _ (.head _), mem 1 6 _ e0 e1⟩
  · exact ⟨_, .head _, mem 1 7 _ e0 e1⟩

/-- A point's stores reach every entry. -/
theorem bps_cover (i : grid0.Coords) (T1 : S1.Idx → Elt Bits .i32) (x0 : S2x2048x128.Idx → Elt Bits .f32) (x1 x2 : S1x2048x1024.Idx → Elt Bits .bf16)
    (x3 x4 : S1x1x1024.Idx → Elt Bits .f32) (x5 : S1x1x1024x2048.Idx → Elt Bits .f32) (x6 : S1x1x2048.Idx → Elt Bits .f32) (y : S2x2048x128.Idx) :
    ∃ p ∈ bps i T1 x0 x1 x2 x3 x4 x5 x6, y ∈ p.1.set := by
  unfold bps
  split
  · exact yps_cover _ _ _ _ _ _ _ y
  · refine ⟨_, .head _, (Rect.mem_set_unit (s := S2x2048x128) (inb := inb_S2x2048x128_S2x2048x128_0_0_0)).mpr fun a => ?_⟩
    have h := (y a).isLt
    fin_cases a <;> exact ⟨Nat.zero_le _, by simpa using h⟩

/-! ## When the weights are not new -/

/-- The weights not being new, the point is not the first and its expert is the expert of the point before. -/
theorem of_not_fresh {i : grid0.Coords} {T0 : S160.Idx → Elt Bits .i32} (h : ¬Fresh i T0) :
    BitVec.ofNat 32 (i 0).val ≠ 0#32 ∧ beHere i T0 = bePrev i T0 := by
  have key : ∀ b1 b2 : Bool, BitVec.ofBool (BitVec.setWidth 32 (IntOp.ori (BitVec.ofBool b1) (BitVec.ofBool b2)) != 0#32) = 1#1 ↔ (b1 = true ∨ b2 = true) := by decide
  have h' : ¬(BitVec.ofBool (BitVec.setWidth 32 (IntOp.ori (BitVec.ofBool (BitVec.ofNat 32 (i 0).val == 0#32)) (BitVec.ofBool (beHere i T0 != bePrev i T0))) != 0#32) = 1#1) := h
  rw [key, not_or] at h'
  exact ⟨fun e => h'.1 (by rw [e]; rfl), by simpa using h'.2⟩

/-- One of the two conditions always holds: the output block is stored at every point. -/
theorem not_idle (i : grid0.Coords) (w : BitVec 32) : (!(k0_cond2 i w == 1#1) && !(k0_cond3 i w == 1#1)) = false := by
  unfold k0_cond2 k0_cond3
  generalize BitVec.ofNat 32 (i 0).val = v
  simp only [Scalar.cmpi, Scalar.extui, IntOp.cmpi, BitVec.sle_eq_not_slt]
  generalize v.slt w = b
  revert b; decide

/-- The grid's points are its one coordinate. -/
theorem crd_val : ∀ t : Fin grid0.N, (grid0.coords t 0).val = t.val := by decide +kernel

/-- The word before a point's is the point before's. -/
theorem off_prev : ∀ t : Fin grid0.N, ∀ h : 0 < t.val, k0_off2 (grid0.coords t) = k0_off1 (grid0.coords ⟨t.val - 1, by omega⟩) := by decide +kernel

theorem be_prev (t : Fin grid0.N) (h : 0 < t.val) (T0 : S160.Idx → Elt Bits .i32) :
    bePrev (grid0.coords t) T0 = beHere (grid0.coords ⟨t.val - 1, by omega⟩) T0 := by
  have aux : ∀ (o o' : Fin 1 → ℕ) (ho) (ho'), o = o' →
      View.readAt (Elt Bits) beM.view (Rect.unit (s := S160) o S1.size ho).toLoadRect T0 (Shape.Idx.first (numel1_S1.symm ▸ Nat.one_pos))
      = View.readAt (Elt Bits) beM.view (Rect.unit (s := S160) o' S1.size ho').toLoadRect T0 (Shape.Idx.first (numel1_S1.symm ▸ Nat.one_pos)) := by
    intro o o' ho ho' e; subst e; rfl
  exact aux _ _ _ _ (off_prev t h)

/-! ## The pipeline at the tables `T` -/

section Launch

variable (T : pre0.Contents (Elt Bits)) (ok : ok0 (F := Bits) T)
variable (m : (ℓ : Loc nD τ sig) → Buf (Elt Bits) ℓ) (ρ : Dev nD → PrngReg)

/-- The two tables, at their shapes. -/
abbrev tb0 : S160.Idx → Elt Bits .i32 := T 0
abbrev tb1 : S1.Idx → Elt Bits .i32 := T 1

/-- The tables with their side condition, and the pipeline at them. -/
abbrev adm : (pcfg0 (F := Bits)).Adm := ⟨T, ok⟩
abbrev cfgA : Pipeline.Cfg sig Λ₀ := cfg0 (F := Bits) (adm T ok)
abbrev pcs : Fin 1 → Pipeline.Cfg sig Λ₀ := Pipeline.pin (pcfgs (F := Bits)) fun _ => adm T ok

/-- A point's coordinates, and each window's buffer there. -/
abbrev crd (t : Fin (cfgA T ok).N) : (cfgA T ok).grid.Coords := (cfgA T ok).grid.coords t
abbrev ms0 (t : Fin (cfgA T ok).N) : Memref sig .tc .vmem S2x2048x128 .f32 := spec0_0.stage ((cfgA T ok).slots t (0 : Fin 8))
abbrev hs0 (t : Fin (cfgA T ok).N) : (ms0 T ok t).IsWhole := hstage0_0 (((cfgA T ok).slots t (0 : Fin 8)).cast nbuf0_0)
abbrev ms1 (t : Fin (cfgA T ok).N) : Memref sig .tc .vmem S1x2048x1024 .bf16 := spec0_1.stage ((cfgA T ok).slots t (1 : Fin 8))
abbrev hs1 (t : Fin (cfgA T ok).N) : (ms1 T ok t).IsWhole := hstage0_1 (((cfgA T ok).slots t (1 : Fin 8)).cast nbuf0_1)
abbrev ms2 (t : Fin (cfgA T ok).N) : Memref sig .tc .vmem S1x2048x1024 .bf16 := spec0_2.stage ((cfgA T ok).slots t (2 : Fin 8))
abbrev hs2 (t : Fin (cfgA T ok).N) : (ms2 T ok t).IsWhole := hstage0_2 (((cfgA T ok).slots t (2 : Fin 8)).cast nbuf0_2)
abbrev ms3 (t : Fin (cfgA T ok).N) : Memref sig .tc .vmem S1x1x1024 .f32 := spec0_3.stage ((cfgA T ok).slots t (3 : Fin 8))
abbrev hs3 (t : Fin (cfgA T ok).N) : (ms3 T ok t).IsWhole := hstage0_3 (((cfgA T ok).slots t (3 : Fin 8)).cast nbuf0_3)
abbrev ms4 (t : Fin (cfgA T ok).N) : Memref sig .tc .vmem S1x1x1024 .f32 := spec0_4.stage ((cfgA T ok).slots t (4 : Fin 8))
abbrev hs4 (t : Fin (cfgA T ok).N) : (ms4 T ok t).IsWhole := hstage0_4 (((cfgA T ok).slots t (4 : Fin 8)).cast nbuf0_4)
abbrev ms5 (t : Fin (cfgA T ok).N) : Memref sig .tc .vmem S1x1x1024x2048 .f32 := spec0_5.stage ((cfgA T ok).slots t (5 : Fin 8))
abbrev hs5 (t : Fin (cfgA T ok).N) : (ms5 T ok t).IsWhole := hstage0_5 (((cfgA T ok).slots t (5 : Fin 8)).cast nbuf0_5)
abbrev ms6 (t : Fin (cfgA T ok).N) : Memref sig .tc .vmem S1x1x2048 .f32 := spec0_6.stage ((cfgA T ok).slots t (6 : Fin 8))
abbrev hs6 (t : Fin (cfgA T ok).N) : (ms6 T ok t).IsWhole := hstage0_6 (((cfgA T ok).slots t (6 : Fin 8)).cast nbuf0_6)
abbrev ms7 (t : Fin (cfgA T ok).N) : Memref sig .tc .vmem S2x2048x128 .f32 := spec0_7.stage ((cfgA T ok).slots t (7 : Fin 8))
abbrev hs7 (t : Fin (cfgA T ok).N) : (ms7 T ok t).IsWhole := hstage0_7 (((cfgA T ok).slots t (7 : Fin 8)).cast nbuf0_7)

/-- A window's block at a point, read off its array as launched. -/
def iblk (c : Dev nD) (w : Fin (cfgA T ok).W) (t : Fin (cfgA T ok).N) : (((cfgA T ok).win w).xblock (crd T ok t)).Idx → Elt Bits ((cfgA T ok).win w).elt :=
  (((cfgA T ok).win w).blk t).view.read (Elt Bits) ((s₀ m ρ).mem (((cfgA T ok).win w).arr.view.loc (c : Thread nD τ)))

/-- What a point leaves in the output block. -/
def oblk (c : Dev nD) (t : Fin (cfgA T ok).N) : S2x2048x128.Idx → Elt Bits .f32 :=
  View.canon (bps (crd T ok t) (tb1 T) (iblk T ok m ρ c (0 : Fin 8) t) (iblk T ok m ρ c (1 : Fin 8) t) (iblk T ok m ρ c (2 : Fin 8) t) (iblk T ok m ρ c (3 : Fin 8) t) (iblk T ok m ρ c (4 : Fin 8) t) (iblk T ok m ρ c (5 : Fin 8) t) (iblk T ok m ρ c (6 : Fin 8) t))

/-- Before a point: past the first, the scratch holds the weights of the point before; the body's halves of the tables. -/
def Phi (c : Dev nD) (t : Fin ((cfgA T ok).N + 1)) : sProp 𝕄 :=
  iprop((∃ a : Buf (Elt Bits) ((c : Thread nD τ).loc cc0_scratch0), ⌜∀ h : 0 < t.val, held a = k0_pay1 (F := Bits) (iblk T ok m ρ c (5 : Fin 8) ⟨t.val - 1, by omega⟩)⌝
      ∗ (scM.view.loc (c : Thread nD τ) ↦{fullShare} a))
    ∗ (beM.view.loc (c : Thread nD τ) ↦{fullShare.right} tb0 T) ∗ (nuM.view.loc (c : Thread nD τ) ↦{fullShare.right} tb1 T))

/-- The proof data of the pipeline on a core. -/
def dats (_ : Fin 1) (c : Dev nD) : Dat τ (Elt Bits) Unit ℕ (UR sig nD τ) ℕ (cfgA T ok) c where
  A w := (s₀ m ρ).mem (((cfgA T ok).win w).arr.view.loc (c : Thread nD τ))
  after w t := match w with
    | ⟨0, _⟩ => iblk T ok m ρ c (0 : Fin 8) t
    | ⟨1, _⟩ => iblk T ok m ρ c (1 : Fin 8) t
    | ⟨2, _⟩ => iblk T ok m ρ c (2 : Fin 8) t
    | ⟨3, _⟩ => iblk T ok m ρ c (3 : Fin 8) t
    | ⟨4, _⟩ => iblk T ok m ρ c (4 : Fin 8) t
    | ⟨5, _⟩ => iblk T ok m ρ c (5 : Fin 8) t
    | ⟨6, _⟩ => iblk T ok m ρ c (6 : Fin 8) t
    | ⟨7, _⟩ => oblk T ok m ρ c t
  Φ t := Phi T ok m ρ c t
  q _ := fullShare
  owed _ := 0

theorem after_0 (c : Dev nD) (t : Fin (cfgA T ok).N) : (dats T ok m ρ 0 c).after (0 : Fin 8) t = iblk T ok m ρ c (0 : Fin 8) t := rfl
theorem after_1 (c : Dev nD) (t : Fin (cfgA T ok).N) : (dats T ok m ρ 0 c).after (1 : Fin 8) t = iblk T ok m ρ c (1 : Fin 8) t := rfl
theorem after_2 (c : Dev nD) (t : Fin (cfgA T ok).N) : (dats T ok m ρ 0 c).after (2 : Fin 8) t = iblk T ok m ρ c (2 : Fin 8) t := rfl
theorem after_3 (c : Dev nD) (t : Fin (cfgA T ok).N) : (dats T ok m ρ 0 c).after (3 : Fin 8) t = iblk T ok m ρ c (3 : Fin 8) t := rfl
theorem after_4 (c : Dev nD) (t : Fin (cfgA T ok).N) : (dats T ok m ρ 0 c).after (4 : Fin 8) t = iblk T ok m ρ c (4 : Fin 8) t := rfl
theorem after_5 (c : Dev nD) (t : Fin (cfgA T ok).N) : (dats T ok m ρ 0 c).after (5 : Fin 8) t = iblk T ok m ρ c (5 : Fin 8) t := rfl
theorem after_6 (c : Dev nD) (t : Fin (cfgA T ok).N) : (dats T ok m ρ 0 c).after (6 : Fin 8) t = iblk T ok m ρ c (6 : Fin 8) t := rfl
theorem after_7 (c : Dev nD) (t : Fin (cfgA T ok).N) : (dats T ok m ρ 0 c).after (7 : Fin 8) t = oblk T ok m ρ c t := rfl

theorem before_0 (c : Dev nD) (t : Fin (cfgA T ok).N) (d) : (dats T ok m ρ 0 c).before (0 : Fin 8) t d = iblk T ok m ρ c (0 : Fin 8) t :=
  ((dats T ok m ρ 0 c).before_in_eq_fetched (0 : Fin 8) rfl (fun _ => rfl) (fun _ _ _ => rfl) (fun t => by rw [after_0]; unfold Dat.blockOf iblk; rfl) t d).trans
    (by unfold Dat.fetched Dat.blockOf iblk; rfl)

theorem before_1 (c : Dev nD) (t : Fin (cfgA T ok).N) (d) : (dats T ok m ρ 0 c).before (1 : Fin 8) t d = iblk T ok m ρ c (1 : Fin 8) t :=
  ((dats T ok m ρ 0 c).before_in_eq_fetched (1 : Fin 8) rfl (fun _ => rfl) (fun _ _ _ => rfl) (fun t => by rw [after_1]; unfold Dat.blockOf iblk; rfl) t d).trans
    (by unfold Dat.fetched Dat.blockOf iblk; rfl)

theorem before_2 (c : Dev nD) (t : Fin (cfgA T ok).N) (d) : (dats T ok m ρ 0 c).before (2 : Fin 8) t d = iblk T ok m ρ c (2 : Fin 8) t :=
  ((dats T ok m ρ 0 c).before_in_eq_fetched (2 : Fin 8) rfl (fun _ => rfl) (fun _ _ _ => rfl) (fun t => by rw [after_2]; unfold Dat.blockOf iblk; rfl) t d).trans
    (by unfold Dat.fetched Dat.blockOf iblk; rfl)

theorem before_3 (c : Dev nD) (t : Fin (cfgA T ok).N) (d) : (dats T ok m ρ 0 c).before (3 : Fin 8) t d = iblk T ok m ρ c (3 : Fin 8) t :=
  ((dats T ok m ρ 0 c).before_in_eq_fetched (3 : Fin 8) rfl (fun _ => rfl) (fun _ _ _ => rfl) (fun t => by rw [after_3]; unfold Dat.blockOf iblk; rfl) t d).trans
    (by unfold Dat.fetched Dat.blockOf iblk; rfl)

theorem before_4 (c : Dev nD) (t : Fin (cfgA T ok).N) (d) : (dats T ok m ρ 0 c).before (4 : Fin 8) t d = iblk T ok m ρ c (4 : Fin 8) t :=
  ((dats T ok m ρ 0 c).before_in_eq_fetched (4 : Fin 8) rfl (fun _ => rfl) (fun _ _ _ => rfl) (fun t => by rw [after_4]; unfold Dat.blockOf iblk; rfl) t d).trans
    (by unfold Dat.fetched Dat.blockOf iblk; rfl)

theorem before_5 (c : Dev nD) (t : Fin (cfgA T ok).N) (d) : (dats T ok m ρ 0 c).before (5 : Fin 8) t d = iblk T ok m ρ c (5 : Fin 8) t :=
  ((dats T ok m ρ 0 c).before_in_eq_fetched (5 : Fin 8) rfl (fun _ => rfl) (fun _ _ _ => rfl) (fun t => by rw [after_5]; unfold Dat.blockOf iblk; rfl) t d).trans
    (by unfold Dat.fetched Dat.blockOf iblk; rfl)

theorem before_6 (c : Dev nD) (t : Fin (cfgA T ok).N) (d) : (dats T ok m ρ 0 c).before (6 : Fin 8) t d = iblk T ok m ρ c (6 : Fin 8) t :=
  ((dats T ok m ρ 0 c).before_in_eq_fetched (6 : Fin 8) rfl (fun _ => rfl) (fun _ _ _ => rfl) (fun t => by rw [after_6]; unfold Dat.blockOf iblk; rfl) t d).trans
    (by unfold Dat.fetched Dat.blockOf iblk; rfl)

/-- The launch cells embedded whole. -/
abbrev EP : Emb (UR sig nD τ) 𝕄 := emb₁

/-- Two points of one expert have one block of output weights. -/
theorem iblk5_congr (c : Dev nD) (t t' : Fin (cfgA T ok).N) (h : beHere (crd T ok t) (tb0 T) = beHere (crd T ok t') (tb0 T)) :
    iblk T ok m ρ c (5 : Fin 8) t = iblk T ok m ρ c (5 : Fin 8) t' := by
  have hi : ((cfgA T ok).win (5 : Fin 8)).index t = ((cfgA T ok).win (5 : Fin 8)).index t' := by
    have e : ∀ s : Fin (cfgA T ok).N, ((cfgA T ok).win (5 : Fin 8)).index s = ![(0#32 : BitVec 32).toNat, (beHere (crd T ok s) (tb0 T)).toNat, (0#32 : BitVec 32).toNat, (0#32 : BitVec 32).toNat] := fun _ => rfl
    rw [e, e, h]
  have f := (dats T ok m ρ 0 c).fetched_congr (5 : Fin 8) hi rfl (iblk T ok m ρ c (5 : Fin 8) t)
  have g : ∀ s : Fin (cfgA T ok).N, (dats T ok m ρ 0 c).fetched (5 : Fin 8) s (iblk T ok m ρ c (5 : Fin 8) t) = iblk T ok m ρ c (5 : Fin 8) s := fun s => by
    unfold Dat.fetched Dat.blockOf iblk; rfl
  exact (g t).symm.trans (f.trans (g t'))

/-- What the scratch held before a point whose weights are not new is the point's own weights. -/
theorem held_of_not_fresh (c : Dev nD) (t : Fin (cfgA T ok).N) (a : Buf (Elt Bits) ((c : Thread nD τ).loc cc0_scratch0))
    (ha : ∀ h : 0 < t.val, held a = k0_pay1 (F := Bits) (iblk T ok m ρ c (5 : Fin 8) ⟨t.val - 1, by omega⟩))
    (hf : ¬Fresh (crd T ok t) (tb0 T)) : held a = k0_pay1 (F := Bits) (iblk T ok m ρ c (5 : Fin 8) t) := by
  obtain ⟨h0, hb⟩ := of_not_fresh hf
  have hv : (crd T ok t 0).val = t.val := crd_val t
  have ht : 0 < t.val := by
    rcases Nat.eq_zero_or_pos t.val with e | e
    · exact absurd (by rw [hv, e]) h0
    · exact e
  rw [ha ht]
  refine congrArg (k0_pay1 (F := Bits)) (iblk5_congr T ok m ρ c t ⟨t.val - 1, by omega⟩ ?_).symm
  exact hb.trans (be_prev t ht (tb0 T))

/-- The body at a point, as the pipeline calls it. -/
abbrev bodyAt (t : Fin (cfgA T ok).N) : Prog (TpuEff nD τ sig (Elt Bits) Λ₀ .tc) PUnit :=
  cc0_moe_experts (crd T ok t) beM (Memref.isWhole_whole _) nuM (Memref.isWhole_whole _) (ms0 T ok t) (hs0 T ok t) (ms1 T ok t) (hs1 T ok t) (ms2 T ok t) (hs2 T ok t) (ms3 T ok t) (hs3 T ok t) (ms4 T ok t) (hs4 T ok t) (ms5 T ok t) (hs5 T ok t) (ms6 T ok t) (hs6 T ok t) (ms7 T ok t) (hs7 T ok t) scM (Memref.isWhole_whole _)

set_option maxHeartbeats 4000000 in
/-- THE OBLIGATION of a point: from what the pipeline hands the body, the body leaves what the data say. -/
theorem sound (c : Dev nD) (t : Fin (cfgA T ok).N) :
    iprop((dats T ok m ρ 0 c).Φ t.castSucc ∗ (dats T ok m ρ 0 c).owesAt () t.castSucc
        ∗ (∃ d, owns (c : Thread nD τ) (ms0 T ok t) fullShare ((dats T ok m ρ 0 c).before (0 : Fin 8) t d))
        ∗ (∃ d, owns (c : Thread nD τ) (ms1 T ok t) fullShare ((dats T ok m ρ 0 c).before (1 : Fin 8) t d))
        ∗ (∃ d, owns (c : Thread nD τ) (ms2 T ok t) fullShare ((dats T ok m ρ 0 c).before (2 : Fin 8) t d))
        ∗ (∃ d, owns (c : Thread nD τ) (ms3 T ok t) fullShare ((dats T ok m ρ 0 c).before (3 : Fin 8) t d))
        ∗ (∃ d, owns (c : Thread nD τ) (ms4 T ok t) fullShare ((dats T ok m ρ 0 c).before (4 : Fin 8) t d))
        ∗ (∃ d, owns (c : Thread nD τ) (ms5 T ok t) fullShare ((dats T ok m ρ 0 c).before (5 : Fin 8) t d))
        ∗ (∃ d, owns (c : Thread nD τ) (ms6 T ok t) fullShare ((dats T ok m ρ 0 c).before (6 : Fin 8) t d))
        ∗ (∃ d, owns (c : Thread nD τ) (ms7 T ok t) fullShare ((dats T ok m ρ 0 c).before (7 : Fin 8) t d)))
      ⊢ wp frame (wpE (defs₀ (F := Bits)) Variants.none c none) Set.univ (bodyAt T ok t) fun _ =>
          iprop((dats T ok m ρ 0 c).Φ t.succ ∗ (dats T ok m ρ 0 c).owesAt () t.succ
            ∗ bigSep Finset.univ fun w : Fin (cfgA T ok).W =>
                match (cfgA T ok).idle w ((cfgA T ok).grid.coords t) with
                | true =>
                  match ((cfgA T ok).win w).flush t with
                  | false => iprop(∃ d, owns (c : Thread nD τ) (((cfgA T ok).win w).stage ((cfgA T ok).slots t w)) fullShare ((dats T ok m ρ 0 c).before w t d))
                  | true => owns (c : Thread nD τ) (((cfgA T ok).win w).stage ((cfgA T ok).slots t w)) fullShare ((dats T ok m ρ 0 c).after w t)
                | false => owns (c : Thread nD τ) (((cfgA T ok).win w).stage ((cfgA T ok).slots t w)) fullShare ((dats T ok m ρ 0 c).after w t)) := by
  rw [bigSep_W0]
  have i7 : (cfgA T ok).idle (7 : Fin 8) ((cfgA T ok).grid.coords t) = false := not_idle (crd T ok t) _
  rewrite [i7]
  simp only [before_0, before_1, before_2, before_3, before_4, before_5, before_6, after_0, after_1, after_2, after_3, after_4, after_5, after_6, after_7]
  rewrite [show (dats T ok m ρ 0 c).Φ t.succ = Phi T ok m ρ c t.succ from rfl, show (dats T ok m ρ 0 c).Φ t.castSucc = Phi T ok m ρ c t.castSucc from rfl,
    show (dats T ok m ρ 0 c).owesAt () t.succ = (dats T ok m ρ 0 c).owesAt () t.castSucc from rfl]
  unfold Phi
  iintro ⟨⟨⟨%a, %ha, HS⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain ⟨sc, hsc, run⟩ := body c (crd T ok t) (ms0 T ok t) (hs0 T ok t) (ms1 T ok t) (hs1 T ok t) (ms2 T ok t) (hs2 T ok t) (ms3 T ok t) (hs3 T ok t) (ms4 T ok t) (hs4 T ok t) (ms5 T ok t) (hs5 T ok t) (ms6 T ok t) (hs6 T ok t) (ms7 T ok t) (hs7 T ok t) (tb0 T) (tb1 T)
    (iblk T ok m ρ c (0 : Fin 8) t) (iblk T ok m ρ c (1 : Fin 8) t) (iblk T ok m ρ c (2 : Fin 8) t) (iblk T ok m ρ c (3 : Fin 8) t) (iblk T ok m ρ c (4 : Fin 8) t) (iblk T ok m ρ c (5 : Fin 8) t) (iblk T ok m ρ c (6 : Fin 8) t)
    a (held_of_not_fresh T ok m ρ c t a ha)
  iapply (run _)
  isplitl [H0 H1 H2 H3 H4 H5 H6 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    iexact HT1
  isplitl [H7]; · iexists _; iexact H7
  isplitl [HS]; · iexact HS
  iintro ⟨⟨H0, H1, H2, H3, H4, H5, H6, HT0, HT1⟩, ⟨%e7, H7⟩, HS⟩
  isplitl [HS HT0 HT1]
  · isplitl [HS]
    · iexists _; isplitr; swap
      · iexact HS
      · ipureintro; intro hn; exact hsc
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  isplitl [H6]
  · iapply owns_of_rep; iexact H6
  unfold owns; iexists _; isplitr; swap
  · iexact H7
  · ipureintro; exact View.read_writes_eq_canon _ _ _ (bps_cover _ _ _ _ _ _ _ _ _)

/-- The library's obligation, at every point. -/
theorem obligation (c : Dev nD) : BodyObligation (dats T ok m ρ 0 c) (defs₀ (F := Bits)) Variants.none () Set.univ := fun t => by
  rw [bigSep_W0]
  exact sound T ok m ρ c t

/-- The launch element. -/
def u₀ : UR sig nD τ :=
  initOf (Pipeline.cells (pcs T ok) ((launch0 (F := Bits)).cellOf_inj fun _ => adm T ok))
    (Pipeline.launchToks (pcs T ok) ((launch0 (F := Bits)).cellOf_inj fun _ => adm T ok))

theorem share_eq (c : Dev nD) (w : Fin (cfgA T ok).W) : (dats T ok m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm T ok).1 ∗ Pipeline.scopedRest spec0 c) ⊢ (dats T ok m ρ 0 c).Φ 0 := by
  rw [prefHeld_eq, scopedRest0_eq, show (dats T ok m ρ 0 c).Φ 0 = Phi T ok m ρ c 0 from rfl]
  unfold Phi
  iintro ⟨-, ⟨HT0, HT1⟩, ⟨%a0, HS0⟩⟩
  isplitl [HS0]
  · iexists a0; isplitr; swap
    · iexact HS0
    · ipureintro; intro h; exact absurd h (Nat.lt_irrefl 0)
  isplitl [HT0]
  · iexact HT0
  iexact HT1

/-- at the last point it gives the scratch buffers back (`hout`), the tables let go. -/
theorem phiN_exit (c : Dev nD) : (dats T ok m ρ 0 c).Φ (Fin.last (cfgA T ok).N) ⊢ iprop(BI.emp ∗ Pipeline.scopedRest spec0 c) := by
  rw [scopedRest0_eq, show (dats T ok m ρ 0 c).Φ (Fin.last (cfgA T ok).N) = Phi T ok m ρ c (Fin.last _) from rfl]
  unfold Phi
  iintro ⟨⟨%a0, -, HS0⟩, -, -⟩
  isplitr; · iempintro
  iexists a0; iexact HS0

/-- The state a run ends in: every array at what the data say, every table as it was. -/
def QC : PUnit × MemSt nD τ sig (Elt Bits) → Prop := fun r =>
  ∀ c : Dev nD, (∀ w : Fin (cfgA T ok).W, r.2.mem (((cfgA T ok).win w).arr.view.loc (c : Thread nD τ)) = (dats T ok m ρ 0 c).arrAt w (cfgA T ok).N)
    ∧ ∀ j, r.2.mem ((c : Thread nD τ).loc (pre0.ref j)) = (adm T ok).1 j

/-- The memory holds the tables `T` on every core. -/
def At (m : (ℓ : Loc nD τ sig) → Buf (Elt Bits) ℓ) : Prop :=
  (∀ c : Dev nD, m ((c : Thread nD τ).loc main_arg0) = tb0 T) ∧ (∀ c : Dev nD, m ((c : Thread nD τ).loc main_arg1) = tb1 T)

theorem V_pre (hp : At T m) (c : Dev nD) (j : Fin 2) : m ((c : Thread nD τ).loc (pre0.ref j)) = T j := by
  fin_cases j
  · exact hp.1 c
  · exact hp.2 c

set_option backward.isDefEq.respectTransparency.types false in
set_option maxHeartbeats 4000000 in
/-- From any memory holding the tables with zero counters every fair run of the launch ends, each array at what the data say, every counter zero. -/
theorem run_main_quiescent (hp : At T m) : θ_run (defs (F := Bits)) (onTc (τ := τ) (main (F := Bits))) (s₀ m ρ) (fun r => QC T ok m ρ r ∧ r.2.sem = fun _ => 0) :=
  Pipeline.θ_run_region_noSem_pf_quiescent pcfgs (fun _ => adm T ok) (dats T ok m ρ) () ((launch0 (F := Bits)).cellOf_inj fun _ => adm T ok) (0 : Fin 1)
    (launch0 (F := Bits)).win.to₀ (launch0 (F := Bits)).pre EP defs₀ Variants.none m ρ main
    (hbody := fun c => (obligation T ok m ρ c).loose) (hne := (launch0 (F := Bits)).block_pos)
    (harr := (launch0 (F := Bits)).arr_whole) (hstage := (launch0 (F := Bits)).stage_whole) (howed := fun _ _ => rfl)
    (u₀ := u₀ T ok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T ok) (dats T ok m ρ) 0 (launch0 (F := Bits)).win.arr_inj c (launch0 (F := Bits)).arr_whole
      (share_eq T ok m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T ok m ρ)
    (hout := phiN_exit T ok m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : At T m) : θ_run (defs (F := Bits)) (onTc (τ := τ) (main (F := Bits))) (s₀ m ρ) (QC T ok m ρ) :=
  (θ_run defs _ _).mono (fun _ h => h.1) (run_main_quiescent T ok m ρ hp)

include ok in
/-- `frame` without the counters: the argument arrays end unchanged. -/
theorem unchanged (hp : At T m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 0).trans (hp.1 c).symm, ((h c).2 1).trans (hp.2 c).symm, ((h c).1 (0 : Fin 8)).trans ((dats T ok m ρ 0 c).arrAt_in (0 : Fin 8) rfl _), ((h c).1 (1 : Fin 8)).trans ((dats T ok m ρ 0 c).arrAt_in (1 : Fin 8) rfl _), ((h c).1 (2 : Fin 8)).trans ((dats T ok m ρ 0 c).arrAt_in (2 : Fin 8) rfl _), ((h c).1 (3 : Fin 8)).trans ((dats T ok m ρ 0 c).arrAt_in (3 : Fin 8) rfl _), ((h c).1 (4 : Fin 8)).trans ((dats T ok m ρ 0 c).arrAt_in (4 : Fin 8) rfl _), ((h c).1 (5 : Fin 8)).trans ((dats T ok m ρ 0 c).arrAt_in (5 : Fin 8) rfl _), ((h c).1 (6 : Fin 8)).trans ((dats T ok m ρ 0 c).arrAt_in (6 : Fin 8) rfl _)⟩) (run_main T ok m ρ hp)

include ok in
/-- THE FRAME at the tables: every fair run ends, faults nothing, leaves every argument as it was and every counter zero. -/
theorem frame (hp : At T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged T ok m ρ hp) ((θ_run defs _ _).mono (fun _ h => h.2) (run_main_quiescent T ok m ρ hp))

end Launch

end Cert.Experts.Exp

end
-- ==== Proof.ExpIdeal.Body.lean ====
/- The experts' body, run once per way its two conditions can fall: what it leaves in the output block and in the scratch. -/
module

public import proofs.«01_k».proof.Proof.Gen.ExpertsIdeal.Skeleton
public import proofs.«01_k».proof.Proof.Gen.ExpertsIdeal.Launch
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.VecWindow
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.PureOps.BitExact
public import Idealize.ShloMosaic.Adequacy
public import Idealize.ShloMosaic.Init

@[expose] public section

set_option maxRecDepth 16384
set_option Elab.async false

noncomputable section

namespace Cert.ExpertsIdeal.Exp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The logic's model at this program. -/
local notation "𝕄" => MT nD τ sig Unit (Elt Ideal) ℕ (UR sig nD τ) ℕ

/-- The table of blocks' experts, the number of blocks in use, and the scratch, as the body gets them. -/
abbrev beM : Memref sig .tc .smem S160 .i32 := Memref.whole main_arg0
abbrev nuM : Memref sig .tc .smem S1 .i32 := Memref.whole main_arg1
abbrev scM : Memref sig .tc .vmem S1024x2048 .bf16 := Memref.whole cc0_scratch0

/-- The words the body reads at a point: the expert of its block, the expert of the block before, the count. -/
abbrev beHere (i : grid0.Coords) (T0 : S160.Idx → Elt Ideal .i32) : BitVec 32 :=
  View.readAt (Elt Ideal) beM.view (Rect.unit (s := S160) (k0_off1 i) S1.size (k0_off1_inb i)).toLoadRect T0
    (Shape.Idx.first (numel1_S1.symm ▸ Nat.one_pos))
abbrev bePrev (i : grid0.Coords) (T0 : S160.Idx → Elt Ideal .i32) : BitVec 32 :=
  View.readAt (Elt Ideal) beM.view (Rect.unit (s := S160) (k0_off2 i) S1.size (k0_off2_inb i)).toLoadRect T0
    (Shape.Idx.first (numel1_S1.symm ▸ Nat.one_pos))
abbrev nuHere (T1 : S1.Idx → Elt Ideal .i32) : BitVec 32 :=
  View.readAt (Elt Ideal) nuM.view (Rect.unit (s := S1) ![0] S1.size inb_S1_S1_0).toLoadRect T1
    (Shape.Idx.first (numel1_S1.symm ▸ Nat.one_pos))

/-- The first condition: the block's expert is not the one whose weights the scratch holds. -/
abbrev Fresh (i : grid0.Coords) (T0 : S160.Idx → Elt Ideal .i32) : Prop :=
  Scalar.cmpi .ne (Scalar.extui (Scalar.ori (Scalar.cmpi .eq (BitVec.ofNat 32 (i 0).val) 0#32)
    (Scalar.cmpi .ne (beHere i T0) (bePrev i T0)))) 0#32 = 1#1
/-- The second condition: the block is in use; and the third: it is not. -/
abbrev Used (i : grid0.Coords) (T1 : S1.Idx → Elt Ideal .i32) : Prop := k0_cond2 i (nuHere T1) = 1#1
abbrev Past (i : grid0.Coords) (T1 : S1.Idx → Elt Ideal .i32) : Prop := k0_cond3 i (nuHere T1) = 1#1

/-- A box of a block of rows. -/
abbrev ln (x0 : S2x2048x128.Idx → Elt Ideal .f32) (r : LoadRect S2x2048x128) : r.shape.Idx → Elt Ideal .f32 := fun y => x0 (r.idx y)

/-- The clipped gate of a block of rows; -/
def gate (R : (r : LoadRect S2x2048x128) → r.shape.Idx → Elt Ideal .f32) (x1 : S1x2048x1024.Idx → Elt Ideal .bf16) (x3 : S1x1x1024.Idx → Elt Ideal .f32) : FVec Ideal S256x1024 .f32 :=
  k0_pay13 (k0_pay8 (R ⟨![0, 0, 0], S1x256x128.size, ![1, 8, 1], inb_S2x2048x128_S1x256x128_0_0_0_s_1_8_1⟩) (R ⟨![0, 1, 0], S1x256x128.size, ![1, 8, 1], inb_S2x2048x128_S1x256x128_0_1_0_s_1_8_1⟩) (R ⟨![0, 2, 0], S1x256x128.size, ![1, 8, 1], inb_S2x2048x128_S1x256x128_0_2_0_s_1_8_1⟩) (R ⟨![0, 3, 0], S1x256x128.size, ![1, 8, 1], inb_S2x2048x128_S1x256x128_0_3_0_s_1_8_1⟩) (R ⟨![0, 4, 0], S1x256x128.size, ![1, 8, 1], inb_S2x2048x128_S1x256x128_0_4_0_s_1_8_1⟩) (R ⟨![0, 5, 0], S1x256x128.size, ![1, 8, 1], inb_S2x2048x128_S1x256x128_0_5_0_s_1_8_1⟩) (R ⟨![0, 6, 0], S1x256x128.size, ![1, 8, 1], inb_S2x2048x128_S1x256x128_0_6_0_s_1_8_1⟩) (R ⟨![0, 7, 0], S1x256x128.size, ![1, 8, 1], inb_S2x2048x128_S1x256x128_0_7_0_s_1_8_1⟩))
    (k0_pay9 (R ⟨![1, 0, 0], S1x256x128.size, ![1, 8, 1], inb_S2x2048x128_S1x256x128_1_0_0_s_1_8_1⟩)) (k0_pay10 (R ⟨![1, 1, 0], S1x256x128.size, ![1, 8, 1], inb_S2x2048x128_S1x256x128_1_1_0_s_1_8_1⟩)) (k0_pay11 (R ⟨![1, 2, 0], S1x256x128.size, ![1, 8, 1], inb_S2x2048x128_S1x256x128_1_2_0_s_1_8_1⟩))
    (R ⟨![1, 3, 0], S1x256x128.size, ![1, 8, 1], inb_S2x2048x128_S1x256x128_1_3_0_s_1_8_1⟩) (R ⟨![1, 4, 0], S1x256x128.size, ![1, 8, 1], inb_S2x2048x128_S1x256x128_1_4_0_s_1_8_1⟩) (R ⟨![1, 5, 0], S1x256x128.size, ![1, 8, 1], inb_S2x2048x128_S1x256x128_1_5_0_s_1_8_1⟩) (R ⟨![1, 6, 0], S1x256x128.size, ![1, 8, 1], inb_S2x2048x128_S1x256x128_1_6_0_s_1_8_1⟩) (R ⟨![1, 7, 0], S1x256x128.size, ![1, 8, 1], inb_S2x2048x128_S1x256x128_1_7_0_s_1_8_1⟩) x1 x3
/-- the linear half, clipped from below. -/
def lin (R : (r : LoadRect S2x2048x128) → r.shape.Idx → Elt Ideal .f32) (x2 : S1x2048x1024.Idx → Elt Ideal .bf16) (x4 : S1x1x1024.Idx → Elt Ideal .f32) : FVec Ideal S256x1024 .f32 :=
  k0_pay14 (k0_pay8 (R ⟨![0, 0, 0], S1x256x128.size, ![1, 8, 1], inb_S2x2048x128_S1x256x128_0_0_0_s_1_8_1⟩) (R ⟨![0, 1, 0], S1x256x128.size, ![1, 8, 1], inb_S2x2048x128_S1x256x128_0_1_0_s_1_8_1⟩) (R ⟨![0, 2, 0], S1x256x128.size, ![1, 8, 1], inb_S2x2048x128_S1x256x128_0_2_0_s_1_8_1⟩) (R ⟨![0, 3, 0], S1x256x128.size, ![1, 8, 1], inb_S2x2048x128_S1x256x128_0_3_0_s_1_8_1⟩) (R ⟨![0, 4, 0], S1x256x128.size, ![1, 8, 1], inb_S2x2048x128_S1x256x128_0_4_0_s_1_8_1⟩) (R ⟨![0, 5, 0], S1x256x128.size, ![1, 8, 1], inb_S2x2048x128_S1x256x128_0_5_0_s_1_8_1⟩) (R ⟨![0, 6, 0], S1x256x128.size, ![1, 8, 1], inb_S2x2048x128_S1x256x128_0_6_0_s_1_8_1⟩) (R ⟨![0, 7, 0], S1x256x128.size, ![1, 8, 1], inb_S2x2048x128_S1x256x128_0_7_0_s_1_8_1⟩))
    (k0_pay9 (R ⟨![1, 0, 0], S1x256x128.size, ![1, 8, 1], inb_S2x2048x128_S1x256x128_1_0_0_s_1_8_1⟩)) (k0_pay10 (R ⟨![1, 1, 0], S1x256x128.size, ![1, 8, 1], inb_S2x2048x128_S1x256x128_1_1_0_s_1_8_1⟩)) (k0_pay11 (R ⟨![1, 2, 0], S1x256x128.size, ![1, 8, 1], inb_S2x2048x128_S1x256x128_1_2_0_s_1_8_1⟩))
    (R ⟨![1, 3, 0], S1x256x128.size, ![1, 8, 1], inb_S2x2048x128_S1x256x128_1_3_0_s_1_8_1⟩) (R ⟨![1, 4, 0], S1x256x128.size, ![1, 8, 1], inb_S2x2048x128_S1x256x128_1_4_0_s_1_8_1⟩) (R ⟨![1, 5, 0], S1x256x128.size, ![1, 8, 1], inb_S2x2048x128_S1x256x128_1_5_0_s_1_8_1⟩) (R ⟨![1, 6, 0], S1x256x128.size, ![1, 8, 1], inb_S2x2048x128_S1x256x128_1_6_0_s_1_8_1⟩) (R ⟨![1, 7, 0], S1x256x128.size, ![1, 8, 1], inb_S2x2048x128_S1x256x128_1_7_0_s_1_8_1⟩) x2 x4

/-- What the body stores of a block in use, from its blocks (the rows by what a box of them reads) and the weights the scratch holds, the last store first. -/
def yps (R : (r : LoadRect S2x2048x128) → r.shape.Idx → Elt Ideal .f32) (x1 x2 : S1x2048x1024.Idx → Elt Ideal .bf16) (x3 x4 : S1x1x1024.Idx → Elt Ideal .f32)
    (sc : S1024x2048.Idx → Elt Ideal .bf16) (x6 : S1x1x2048.Idx → Elt Ideal .f32) : List (View.Piece (Elt Ideal) S2x2048x128 .f32) :=
  [⟨⟨⟨![1, 7, 0], S1x256x128.size, ![1, 8, 1], inb_S2x2048x128_S1x256x128_1_7_0_s_1_8_1⟩, spos_1_8_1⟩, k0_pay6 (k0_pay27 (k0_pay16 (gate R x1 x3) (lin R x2 x4) k0_pay15 sc x6))⟩,
   ⟨⟨⟨![1, 6, 0], S1x256x128.size, ![1, 8, 1], inb_S2x2048x128_S1x256x128_1_6_0_s_1_8_1⟩, spos_1_8_1⟩, k0_pay5 (k0_pay27 (k0_pay16 (gate R x1 x3) (lin R x2 x4) k0_pay15 sc x6))⟩,
   ⟨⟨⟨![1, 5, 0], S1x256x128.size, ![1, 8, 1], inb_S2x2048x128_S1x256x128_1_5_0_s_1_8_1⟩, spos_1_8_1⟩, k0_pay4 (k0_pay27 (k0_pay16 (gate R x1 x3) (lin R x2 x4) k0_pay15 sc x6))⟩,
   ⟨⟨⟨![1, 4, 0], S1x256x128.size, ![1, 8, 1], inb_S2x2048x128_S1x256x128_1_4_0_s_1_8_1⟩, spos_1_8_1⟩, k0_pay3 (k0_pay27 (k0_pay16 (gate R x1 x3) (lin R x2 x4) k0_pay15 sc x6))⟩,
   ⟨⟨⟨![1, 3, 0], S1x256x128.size, ![1, 8, 1], inb_S2x2048x128_S1x256x128_1_3_0_s_1_8_1⟩, spos_1_8_1⟩, k0_pay2 (k0_pay31 (k0_pay16 (gate R x1 x3) (lin R x2 x4) k0_pay15 sc x6))⟩,
   ⟨⟨⟨![1, 2, 0], S1x256x128.size, ![1, 8, 1], inb_S2x2048x128_S1x256x128_1_2_0_s_1_8_1⟩, spos_1_8_1⟩, k0_pay30 (k0_pay16 (gate R x1 x3) (lin R x2 x4) k0_pay15 sc x6)⟩,
   ⟨⟨⟨![1, 1, 0], S1x256x128.size, ![1, 8, 1], inb_S2x2048x128_S1x256x128_1_1_0_s_1_8_1⟩, spos_1_8_1⟩, k0_pay29 (k0_pay16 (gate R x1 x3) (lin R x2 x4) k0_pay15 sc x6)⟩,
   ⟨⟨⟨![1, 0, 0], S1x256x128.size, ![1, 8, 1], inb_S2x2048x128_S1x256x128_1_0_0_s_1_8_1⟩, spos_1_8_1⟩, k0_pay28 (k0_pay16 (gate R x1 x3) (lin R x2 x4) k0_pay15 sc x6)⟩,
   ⟨⟨⟨![0, 7, 0], S1x256x128.size, ![1, 8, 1], inb_S2x2048x128_S1x256x128_0_7_0_s_1_8_1⟩, spos_1_8_1⟩, k0_pay26 (k0_pay17 (gate R x1 x3) (lin R x2 x4) k0_pay15 sc x6)⟩,
   ⟨⟨⟨![0, 6, 0], S1x256x128.size, ![1, 8, 1], inb_S2x2048x128_S1x256x128_0_6_0_s_1_8_1⟩, spos_1_8_1⟩, k0_pay25 (k0_pay17 (gate R x1 x3) (lin R x2 x4) k0_pay15 sc x6)⟩,
   ⟨⟨⟨![0, 5, 0], S1x256x128.size, ![1, 8, 1], inb_S2x2048x128_S1x256x128_0_5_0_s_1_8_1⟩, spos_1_8_1⟩, k0_pay24 (k0_pay17 (gate R x1 x3) (lin R x2 x4) k0_pay15 sc x6)⟩,
   ⟨⟨⟨![0, 4, 0], S1x256x128.size, ![1, 8, 1], inb_S2x2048x128_S1x256x128_0_4_0_s_1_8_1⟩, spos_1_8_1⟩, k0_pay23 (k0_pay22 (gate R x1 x3) (lin R x2 x4) k0_pay15 sc x6)⟩,
   ⟨⟨⟨![0, 3, 0], S1x256x128.size, ![1, 8, 1], inb_S2x2048x128_S1x256x128_0_3_0_s_1_8_1⟩, spos_1_8_1⟩, k0_pay21 (gate R x1 x3) (lin R x2 x4) k0_pay15 sc x6⟩,
   ⟨⟨⟨![0, 2, 0], S1x256x128.size, ![1, 8, 1], inb_S2x2048x128_S1x256x128_0_2_0_s_1_8_1⟩, spos_1_8_1⟩, k0_pay20 (gate R x1 x3) (lin R x2 x4) k0_pay15 sc x6⟩,
   ⟨⟨⟨![0, 1, 0], S1x256x128.size, ![1, 8, 1], inb_S2x2048x128_S1x256x128_0_1_0_s_1_8_1⟩, spos_1_8_1⟩, k0_pay19 (gate R x1 x3) (lin R x2 x4) k0_pay15 sc x6⟩,
   ⟨⟨⟨![0, 0, 0], S1x256x128.size, ![1, 8, 1], inb_S2x2048x128_S1x256x128_0_0_0_s_1_8_1⟩, spos_1_8_1⟩, k0_pay18 (gate R x1 x3) (lin R x2 x4) k0_pay15 sc x6⟩]
/-- What it stores of a block past the count. -/
def zps : List (View.Piece (Elt Ideal) S2x2048x128 .f32) :=
  [⟨Rect.unit ![0, 0, 0] S2x2048x128.size inb_S2x2048x128_S2x2048x128_0_0_0, k0_pay7 (F := Ideal)⟩]

/-- What the scratch holds, read whole. -/
abbrev held {c : Dev nD} (xa : Buf (Elt Ideal) ((c : Thread nD τ).loc cc0_scratch0)) : S1024x2048.Idx → Elt Ideal .bf16 :=
  View.readAt (Elt Ideal) scM.view (Rect.unit ![0, 0] S1024x2048.size inb_S1024x2048_S1024x2048_0_0).toLoadRect xa

theorem readAt_rep_ln {sp : Space} (v : View sig .tc sp S2x2048x128 .f32) (x0 : S2x2048x128.Idx → Elt Ideal .f32) (r : LoadRect S2x2048x128) :
    View.readAt (Elt Ideal) v r (v.rep x0) = ln x0 r := by
  funext y; rw [View.readAt_apply, View.read_rep]

section Paths

variable (c : Dev nD) (i : grid0.Coords)
  (arg3 : Memref sig .tc .vmem S2x2048x128 .f32) (harg3 : arg3.IsWhole)
  (arg4 : Memref sig .tc .vmem S1x2048x1024 .bf16) (harg4 : arg4.IsWhole)
  (arg5 : Memref sig .tc .vmem S1x2048x1024 .bf16) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1x1024x2048 .f32) (harg8 : arg8.IsWhole)
  (arg9 : Memref sig .tc .vmem S1x1x2048 .f32) (harg9 : arg9.IsWhole)
  (arg10 : Memref sig .tc .vmem S2x2048x128 .f32) (harg10 : arg10.IsWhole)
  (T0 : S160.Idx → Elt Ideal .i32) (T1 : S1.Idx → Elt Ideal .i32)
  (x0 : S2x2048x128.Idx → Elt Ideal .f32) (x1 x2 : S1x2048x1024.Idx → Elt Ideal .bf16)
  (x3 x4 : S1x1x1024.Idx → Elt Ideal .f32) (x5 : S1x1x1024x2048.Idx → Elt Ideal .f32)
  (x6 : S1x1x2048.Idx → Elt Ideal .f32)

/-- What the body is handed and hands back beside the output block and the scratch: its blocks and the tables. -/
abbrev Kept : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (arg7.view.loc (c : Thread nD τ) ↦[arg7.view.set]{fullShare} arg7.view.rep x4)
    ∗ (arg8.view.loc (c : Thread nD τ) ↦[arg8.view.set]{fullShare} arg8.view.rep x5)
    ∗ (arg9.view.loc (c : Thread nD τ) ↦[arg9.view.set]{fullShare} arg9.view.rep x6)
    ∗ (beM.view.loc (c : Thread nD τ) ↦{fullShare.right} T0)
    ∗ (nuM.view.loc (c : Thread nD τ) ↦{fullShare.right} T1))

/-- The body runs from its blocks, the tables and the scratch at `xa`, and leaves the stores `ps` in the output block
    and `sc` in the scratch. -/
def RunsTo (xa sc : Buf (Elt Ideal) ((c : Thread nD τ).loc cc0_scratch0))
    (ps : List (View.Piece (Elt Ideal) S2x2048x128 .f32)) : Prop :=
  ∀ K : PUnit → sProp 𝕄,
    iprop(Kept c arg3 arg4 arg5 arg6 arg7 arg8 arg9 T0 T1 x0 x1 x2 x3 x4 x5 x6
      ∗ (∃ d, owns (c : Thread nD τ) arg10 fullShare d)
      ∗ (scM.view.loc (c : Thread nD τ) ↦{fullShare} xa)
      ∗ (iprop(Kept c arg3 arg4 arg5 arg6 arg7 arg8 arg9 T0 T1 x0 x1 x2 x3 x4 x5 x6
          ∗ (∃ f, arg10.view.loc (c : Thread nD τ) ↦[arg10.view.set]{fullShare} arg10.view.writes (Elt Ideal) f ps)
          ∗ (scM.view.loc (c : Thread nD τ) ↦{fullShare} sc)) -∗ K ⟨⟩))
    ⊢ wp frame (wpE (defs₀ (F := Ideal)) Variants.none c none) Set.univ
        (cc0_moe_experts i beM (Memref.isWhole_whole _) nuM (Memref.isWhole_whole _) arg3 harg3 arg4 harg4 arg5 harg5
          arg6 harg6 arg7 harg7 arg8 harg8 arg9 harg9 arg10 harg10 scM (Memref.isWhole_whole _)) K

/-- The scratch after the block's weights are cast and stored over the whole of it. -/
abbrev scr : Buf (Elt Ideal) ((c : Thread nD τ).loc cc0_scratch0) :=
  scM.view.writes (Elt Ideal) scM.view.junk [⟨Rect.unit ![0, 0] S1024x2048.size inb_S1024x2048_S1024x2048_0_0, k0_pay1 (View.readAt (Elt Ideal) arg8.view (Rect.unit ![0, 0, 0, 0] S1x1x1024x2048.size inb_S1x1x1024x2048_S1x1x1024x2048_0_0_0_0).toLoadRect (arg8.view.rep x5))⟩]

set_option backward.proofsInPublic true in
set_option maxHeartbeats 8000000 in
/-- New weights, a block in use. -/
def runFreshUsed (xa : Buf (Elt Ideal) ((c : Thread nD τ).loc cc0_scratch0))
    (h1 : Fresh i T0) (h2 : Used i T1) (h3 : ¬Past i T1) :
    { ps // RunsTo c i arg3 harg3 arg4 harg4 arg5 harg5 arg6 harg6 arg7 harg7 arg8 harg8 arg9 harg9 arg10 harg10
      T0 T1 x0 x1 x2 x3 x4 x5 x6 xa (scr c arg8 x5) ps } :=
  ⟨_, fun K => by
    unfold owns
    rw [cc0_moe_experts_eq_skeleton]; unfold cc0_moe_experts_skel
    iintro ⟨⟨H0, H1, H2, H3, H4, H5, H6, HT0, HT1⟩, ⟨%d7, %f7, -, HO7⟩, HS0, Hk⟩
    have hS0 : scM.IsWhole := Memref.isWhole_whole _
    have hT0 : beM.IsWhole := Memref.isWhole_whole _
    have hT1 : nuM.IsWhole := Memref.isWhole_whole _
    sl_exec! (disch := first | (guard_target = Scalar.cmpi = _; exact h1) | (guard_target = k0_cond2 _ _ = _; exact h2) | (guard_target = ¬(k0_cond3 _ _ = _); exact h3))
    sl_step
    iapply Hk
    isplitl [H0 H1 H2 H3 H4 H5 H6 HT0 HT1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT0]; · iexact HT0
      iexact HT1
    isplitl [HO7]; · iexists _; iexact HO7
    iexact HS0⟩

/-- New weights, a block past the count: zeros are stored, and the weights in the scratch. -/
theorem runFreshPast (xa : Buf (Elt Ideal) ((c : Thread nD τ).loc cc0_scratch0))
    (h1 : Fresh i T0) (h2 : ¬Used i T1) (h3 : Past i T1) :
    RunsTo c i arg3 harg3 arg4 harg4 arg5 harg5 arg6 harg6 arg7 harg7 arg8 harg8 arg9 harg9 arg10 harg10
      T0 T1 x0 x1 x2 x3 x4 x5 x6 xa (scr c arg8 x5)
      [⟨Rect.unit ![0, 0, 0] S2x2048x128.size inb_S2x2048x128_S2x2048x128_0_0_0, k0_pay7 (F := Ideal)⟩] :=
  fun K => by
    unfold owns
    rw [cc0_moe_experts_eq_skeleton]; unfold cc0_moe_experts_skel
    iintro ⟨⟨H0, H1, H2, H3, H4, H5, H6, HT0, HT1⟩, ⟨%d7, %f7, -, HO7⟩, HS0, Hk⟩
    have hS0 : scM.IsWhole := Memref.isWhole_whole _
    have hT0 : beM.IsWhole := Memref.isWhole_whole _
    have hT1 : nuM.IsWhole := Memref.isWhole_whole _
    sl_exec! (disch := first | (guard_target = Scalar.cmpi = _; exact h1) | (guard_target = ¬(k0_cond2 _ _ = _); exact h2) | (guard_target = k0_cond3 _ _ = _; exact h3))
    sl_step
    iapply Hk
    isplitl [H0 H1 H2 H3 H4 H5 H6 HT0 HT1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT0]; · iexact HT0
      iexact HT1
    isplitl [HO7]; · iexists _; iexact HO7
    iexact HS0

set_option backward.proofsInPublic true in
set_option maxHeartbeats 8000000 in
/-- The weights kept, a block in use. -/
def runKeepUsed (xa : Buf (Elt Ideal) ((c : Thread nD τ).loc cc0_scratch0))
    (h1 : ¬Fresh i T0) (h2 : Used i T1) (h3 : ¬Past i T1) :
    Σ' ps, { sc // RunsTo c i arg3 harg3 arg4 harg4 arg5 harg5 arg6 harg6 arg7 harg7 arg8 harg8 arg9 harg9 arg10 harg10
      T0 T1 x0 x1 x2 x3 x4 x5 x6 xa sc ps } :=
  ⟨_, _, fun K => by
    unfold owns
    rw [cc0_moe_experts_eq_skeleton]; unfold cc0_moe_experts_skel
    iintro ⟨⟨H0, H1, H2, H3, H4, H5, H6, HT0, HT1⟩, ⟨%d7, %f7, -, HO7⟩, HS0, Hk⟩
    have hS0 : scM.IsWhole := Memref.isWhole_whole _
    have hT0 : beM.IsWhole := Memref.isWhole_whole _
    have hT1 : nuM.IsWhole := Memref.isWhole_whole _
    sl_exec! (disch := first | (guard_target = ¬(Scalar.cmpi = _); exact h1) | (guard_target = k0_cond2 _ _ = _; exact h2) | (guard_target = ¬(k0_cond3 _ _ = _); exact h3))
    sl_step
    iapply Hk
    isplitl [H0 H1 H2 H3 H4 H5 H6 HT0 HT1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT0]; · iexact HT0
      iexact HT1
    isplitl [HO7]; · iexists _; iexact HO7
    iexact HS0⟩

/-- The weights kept, a block past the count: zeros are stored and the scratch is left alone. -/
theorem runKeepPast (xa : Buf (Elt Ideal) ((c : Thread nD τ).loc cc0_scratch0))
    (h1 : ¬Fresh i T0) (h2 : ¬Used i T1) (h3 : Past i T1) :
    RunsTo c i arg3 harg3 arg4 harg4 arg5 harg5 arg6 harg6 arg7 harg7 arg8 harg8 arg9 harg9 arg10 harg10
      T0 T1 x0 x1 x2 x3 x4 x5 x6 xa xa
      [⟨Rect.unit ![0, 0, 0] S2x2048x128.size inb_S2x2048x128_S2x2048x128_0_0_0, k0_pay7 (F := Ideal)⟩] :=
  fun K => by
    unfold owns
    rw [cc0_moe_experts_eq_skeleton]; unfold cc0_moe_experts_skel
    iintro ⟨⟨H0, H1, H2, H3, H4, H5, H6, HT0, HT1⟩, ⟨%d7, %f7, -, HO7⟩, HS0, Hk⟩
    have hS0 : scM.IsWhole := Memref.isWhole_whole _
    have hT0 : beM.IsWhole := Memref.isWhole_whole _
    have hT1 : nuM.IsWhole := Memref.isWhole_whole _
    sl_exec! (disch := first | (guard_target = ¬(Scalar.cmpi = _); exact h1) | (guard_target = ¬(k0_cond2 _ _ = _); exact h2) | (guard_target = k0_cond3 _ _ = _; exact h3))
    sl_step
    iapply Hk
    isplitl [H0 H1 H2 H3 H4 H5 H6 HT0 HT1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT0]; · iexact HT0
      iexact HT1
    isplitl [HO7]; · iexists _; iexact HO7
    iexact HS0

end Paths

end Cert.ExpertsIdeal.Exp

end
-- ==== Proof.ExpIdeal.Leaves.lean ====
/- What the experts' body leaves, as a function of the blocks it is handed and the weights in its scratch. -/
module

public import proofs.«01_k».proof.Proof.ExpIdeal.Body
public import proofs.«01_k».proof.Proof.Gen.ExpertsIdeal.Launch
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.VecWindow
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.PureOps.BitExact
public import Idealize.ShloMosaic.Adequacy
public import Idealize.ShloMosaic.Init

@[expose] public section

set_option maxRecDepth 16384
set_option Elab.async false

noncomputable section

namespace Cert.ExpertsIdeal.Exp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The logic's model at this program. -/
local notation "𝕄" => MT nD τ sig Unit (Elt Ideal) ℕ (UR sig nD τ) ℕ

section Paths

variable (c : Dev nD) (i : grid0.Coords)
  (arg3 : Memref sig .tc .vmem S2x2048x128 .f32) (harg3 : arg3.IsWhole)
  (arg4 : Memref sig .tc .vmem S1x2048x1024 .bf16) (harg4 : arg4.IsWhole)
  (arg5 : Memref sig .tc .vmem S1x2048x1024 .bf16) (harg5 : arg5.IsWhole)
  (arg6 : Memref sig .tc .vmem S1x1x1024 .f32) (harg6 : arg6.IsWhole)
  (arg7 : Memref sig .tc .vmem S1x1x1024 .f32) (harg7 : arg7.IsWhole)
  (arg8 : Memref sig .tc .vmem S1x1x1024x2048 .f32) (harg8 : arg8.IsWhole)
  (arg9 : Memref sig .tc .vmem S1x1x2048 .f32) (harg9 : arg9.IsWhole)
  (arg10 : Memref sig .tc .vmem S2x2048x128 .f32) (harg10 : arg10.IsWhole)
  (T0 : S160.Idx → Elt Ideal .i32) (T1 : S1.Idx → Elt Ideal .i32)
  (x0 : S2x2048x128.Idx → Elt Ideal .f32) (x1 x2 : S1x2048x1024.Idx → Elt Ideal .bf16)
  (x3 x4 : S1x1x1024.Idx → Elt Ideal .f32) (x5 : S1x1x1024x2048.Idx → Elt Ideal .f32)
  (x6 : S1x1x2048.Idx → Elt Ideal .f32)

/-- A block not in use is past the count; -/
theorem past_of_not_used {i : grid0.Coords} {T1 : S1.Idx → Elt Ideal .i32} (h : ¬Used i T1) : Past i T1 := by
  unfold Past Used k0_cond2 k0_cond3 at *
  generalize nuHere T1 = w at *
  generalize BitVec.ofNat 32 (i 0).val = v at *
  revert h
  simp only [Scalar.cmpi, Scalar.extui, IntOp.cmpi, BitVec.sle_eq_not_slt]
  generalize v.slt w = b
  revert b; decide

/-- one in use is not. -/
theorem not_past_of_used {i : grid0.Coords} {T1 : S1.Idx → Elt Ideal .i32} (h : Used i T1) : ¬Past i T1 := by
  unfold Past Used k0_cond2 k0_cond3 at *
  generalize nuHere T1 = w at *
  generalize BitVec.ofNat 32 (i 0).val = v at *
  revert h
  simp only [Scalar.cmpi, Scalar.extui, IntOp.cmpi, BitVec.sle_eq_not_slt]
  generalize v.slt w = b
  revert b; decide

set_option maxHeartbeats 2000000 in
theorem freshUsed_ps (xa : Buf (Elt Ideal) ((c : Thread nD τ).loc cc0_scratch0)) (h1 h2 h3) :
    (runFreshUsed c i arg3 harg3 arg4 harg4 arg5 harg5 arg6 harg6 arg7 harg7 arg8 harg8 arg9 harg9 arg10 harg10 T0 T1 x0 x1 x2 x3 x4 x5 x6 xa h1 h2 h3).1 = yps (ln x0) x1 x2 x3 x4 (k0_pay1 x5) x6 := by
  have e0 : (fun r => View.readAt (Elt Ideal) arg3.view r (arg3.view.rep x0)) = ln x0 := funext fun r => readAt_rep_ln _ _ _
  have e1 : (View.readAt (Elt Ideal) arg4.view (Rect.unit ![0, 0, 0] S1x2048x1024.size inb_S1x2048x1024_S1x2048x1024_0_0_0).toLoadRect (arg4.view.rep x1)) = x1 := View.readAt_rep_full _ _ _
  have e2 : (View.readAt (Elt Ideal) arg5.view (Rect.unit ![0, 0, 0] S1x2048x1024.size inb_S1x2048x1024_S1x2048x1024_0_0_0).toLoadRect (arg5.view.rep x2)) = x2 := View.readAt_rep_full _ _ _
  have e3 : (View.readAt (Elt Ideal) arg6.view (Rect.unit ![0, 0, 0] S1x1x1024.size inb_S1x1x1024_S1x1x1024_0_0_0).toLoadRect (arg6.view.rep x3)) = x3 := View.readAt_rep_full _ _ _
  have e4 : (View.readAt (Elt Ideal) arg7.view (Rect.unit ![0, 0, 0] S1x1x1024.size inb_S1x1x1024_S1x1x1024_0_0_0).toLoadRect (arg7.view.rep x4)) = x4 := View.readAt_rep_full _ _ _
  have e6 : (View.readAt (Elt Ideal) arg9.view (Rect.unit ![0, 0, 0] S1x1x2048.size inb_S1x1x2048_S1x1x2048_0_0_0).toLoadRect (arg9.view.rep x6)) = x6 := View.readAt_rep_full _ _ _
  have e5 : (scM.view.readCov (Val := Elt Ideal) [⟨Rect.unit ![0, 0] S1024x2048.size inb_S1024x2048_S1024x2048_0_0, k0_pay1 (View.readAt (Elt Ideal) arg8.view (Rect.unit ![0, 0, 0, 0] S1x1x1024x2048.size inb_S1x1x1024x2048_S1x1x1024x2048_0_0_0_0).toLoadRect (arg8.view.rep x5))⟩] (Rect.unit ![0, 0] S1024x2048.size inb_S1024x2048_S1024x2048_0_0).toLoadRect) = k0_pay1 x5 := by
    rw [View.readCov_full]
    exact congrArg (k0_pay1 (F := Ideal)) (View.readAt_rep_full _ _ _)
  refine Eq.trans (b := yps (fun r => View.readAt (Elt Ideal) arg3.view r (arg3.view.rep x0)) (View.readAt (Elt Ideal) arg4.view (Rect.unit ![0, 0, 0] S1x2048x1024.size inb_S1x2048x1024_S1x2048x1024_0_0_0).toLoadRect (arg4.view.rep x1))
      (View.readAt (Elt Ideal) arg5.view (Rect.unit ![0, 0, 0] S1x2048x1024.size inb_S1x2048x1024_S1x2048x1024_0_0_0).toLoadRect (arg5.view.rep x2)) (View.readAt (Elt Ideal) arg6.view (Rect.unit ![0, 0, 0] S1x1x1024.size inb_S1x1x1024_S1x1x1024_0_0_0).toLoadRect (arg6.view.rep x3))
      (View.readAt (Elt Ideal) arg7.view (Rect.unit ![0, 0, 0] S1x1x1024.size inb_S1x1x1024_S1x1x1024_0_0_0).toLoadRect (arg7.view.rep x4)) (scM.view.readCov (Val := Elt Ideal) [⟨Rect.unit ![0, 0] S1024x2048.size inb_S1024x2048_S1024x2048_0_0, k0_pay1 (View.readAt (Elt Ideal) arg8.view (Rect.unit ![0, 0, 0, 0] S1x1x1024x2048.size inb_S1x1x1024x2048_S1x1x1024x2048_0_0_0_0).toLoadRect (arg8.view.rep x5))⟩] (Rect.unit ![0, 0] S1024x2048.size inb_S1024x2048_S1024x2048_0_0).toLoadRect)
      (View.readAt (Elt Ideal) arg9.view (Rect.unit ![0, 0, 0] S1x1x2048.size inb_S1x1x2048_S1x1x2048_0_0_0).toLoadRect (arg9.view.rep x6))) ?_ ?_
  · rfl
  · rw [e0, e1, e2, e3, e4, e6, e5]

theorem fresh_held (a : scM.view.ty.Contents (Elt Ideal)) (w : S1024x2048.Idx → Elt Ideal .bf16) (L : List (View.Piece (Elt Ideal) S1024x2048 .bf16)) :
    View.readAt (Elt Ideal) scM.view (Rect.unit ![0, 0] S1024x2048.size inb_S1024x2048_S1024x2048_0_0).toLoadRect
      (scM.view.writes (Elt Ideal) a (⟨Rect.unit ![0, 0] S1024x2048.size inb_S1024x2048_S1024x2048_0_0, w⟩ :: L)) = w :=
  View.readAt_writes_full _ _ _ _ _ _

theorem held_scr : held (scr c arg8 x5) = k0_pay1 x5 := by
  unfold held scr
  rw [View.readAt_writes_full, View.readAt_rep_full]

set_option maxHeartbeats 2000000 in
theorem keepUsed_ps (xa : Buf (Elt Ideal) ((c : Thread nD τ).loc cc0_scratch0)) (h1 h2 h3) :
    (runKeepUsed c i arg3 harg3 arg4 harg4 arg5 harg5 arg6 harg6 arg7 harg7 arg8 harg8 arg9 harg9 arg10 harg10 T0 T1 x0 x1 x2 x3 x4 x5 x6 xa h1 h2 h3).1 = yps (ln x0) x1 x2 x3 x4 (held xa) x6 := by
  have e0 : (fun r => View.readAt (Elt Ideal) arg3.view r (arg3.view.rep x0)) = ln x0 := funext fun r => readAt_rep_ln _ _ _
  have e1 : (View.readAt (Elt Ideal) arg4.view (Rect.unit ![0, 0, 0] S1x2048x1024.size inb_S1x2048x1024_S1x2048x1024_0_0_0).toLoadRect (arg4.view.rep x1)) = x1 := View.readAt_rep_full _ _ _
  have e2 : (View.readAt (Elt Ideal) arg5.view (Rect.unit ![0, 0, 0] S1x2048x1024.size inb_S1x2048x1024_S1x2048x1024_0_0_0).toLoadRect (arg5.view.rep x2)) = x2 := View.readAt_rep_full _ _ _
  have e3 : (View.readAt (Elt Ideal) arg6.view (Rect.unit ![0, 0, 0] S1x1x1024.size inb_S1x1x1024_S1x1x1024_0_0_0).toLoadRect (arg6.view.rep x3)) = x3 := View.readAt_rep_full _ _ _
  have e4 : (View.readAt (Elt Ideal) arg7.view (Rect.unit ![0, 0, 0] S1x1x1024.size inb_S1x1x1024_S1x1x1024_0_0_0).toLoadRect (arg7.view.rep x4)) = x4 := View.readAt_rep_full _ _ _
  have e6 : (View.readAt (Elt Ideal) arg9.view (Rect.unit ![0, 0, 0] S1x1x2048.size inb_S1x1x2048_S1x1x2048_0_0_0).toLoadRect (arg9.view.rep x6)) = x6 := View.readAt_rep_full _ _ _
  refine Eq.trans (b := yps (fun r => View.readAt (Elt Ideal) arg3.view r (arg3.view.rep x0)) (View.readAt (Elt Ideal) arg4.view (Rect.unit ![0, 0, 0] S1x2048x1024.size inb_S1x2048x1024_S1x2048x1024_0_0_0).toLoadRect (arg4.view.rep x1))
      (View.readAt (Elt Ideal) arg5.view (Rect.unit ![0, 0, 0] S1x2048x1024.size inb_S1x2048x1024_S1x2048x1024_0_0_0).toLoadRect (arg5.view.rep x2)) (View.readAt (Elt Ideal) arg6.view (Rect.unit ![0, 0, 0] S1x1x1024.size inb_S1x1x1024_S1x1x1024_0_0_0).toLoadRect (arg6.view.rep x3))
      (View.readAt (Elt Ideal) arg7.view (Rect.unit ![0, 0, 0] S1x1x1024.size inb_S1x1x1024_S1x1x1024_0_0_0).toLoadRect (arg7.view.rep x4)) (held xa)
      (View.readAt (Elt Ideal) arg9.view (Rect.unit ![0, 0, 0] S1x1x2048.size inb_S1x1x2048_S1x1x2048_0_0_0).toLoadRect (arg9.view.rep x6))) ?_ ?_
  · rfl
  · rw [e0, e1, e2, e3, e4, e6]

open Classical in
/-- The stores of a point: of its block, or zeros. -/
def bps (i : grid0.Coords) (T1 : S1.Idx → Elt Ideal .i32) (x0 : S2x2048x128.Idx → Elt Ideal .f32) (x1 x2 : S1x2048x1024.Idx → Elt Ideal .bf16)
    (x3 x4 : S1x1x1024.Idx → Elt Ideal .f32) (x5 : S1x1x1024x2048.Idx → Elt Ideal .f32) (x6 : S1x1x2048.Idx → Elt Ideal .f32) :
    List (View.Piece (Elt Ideal) S2x2048x128 .f32) :=
  if Used i T1 then yps (ln x0) x1 x2 x3 x4 (k0_pay1 x5) x6 else zps

set_option maxHeartbeats 2000000 in
/-- THE BODY: if the weights are new, or the scratch already holds the block's, it stores what the block's blocks say and leaves the
    block's weights in the scratch. -/
theorem body (xa : Buf (Elt Ideal) ((c : Thread nD τ).loc cc0_scratch0)) (hxa : ¬Fresh i T0 → held xa = k0_pay1 x5) :
    ∃ sc : Buf (Elt Ideal) ((c : Thread nD τ).loc cc0_scratch0), held sc = k0_pay1 x5 ∧
      RunsTo c i arg3 harg3 arg4 harg4 arg5 harg5 arg6 harg6 arg7 harg7 arg8 harg8 arg9 harg9 arg10 harg10
        T0 T1 x0 x1 x2 x3 x4 x5 x6 xa sc (bps i T1 x0 x1 x2 x3 x4 x5 x6) := by
  unfold bps
  have aux : ∀ (P : List (View.Piece (Elt Ideal) S2x2048x128 .f32))
      (r : Σ' ps, { sc // RunsTo c i arg3 harg3 arg4 harg4 arg5 harg5 arg6 harg6 arg7 harg7 arg8 harg8 arg9 harg9 arg10 harg10 T0 T1 x0 x1 x2 x3 x4 x5 x6 xa sc ps }), r.1 = P → held r.2.1 = k0_pay1 x5 →
      ∃ sc : Buf (Elt Ideal) ((c : Thread nD τ).loc cc0_scratch0), held sc = k0_pay1 x5 ∧ RunsTo c i arg3 harg3 arg4 harg4 arg5 harg5 arg6 harg6 arg7 harg7 arg8 harg8 arg9 harg9 arg10 harg10 T0 T1 x0 x1 x2 x3 x4 x5 x6 xa sc P := by
    rintro P ⟨ps, sc, h⟩ e1 e2
    subst e1
    exact ⟨sc, e2, h⟩
  by_cases h1 : Fresh i T0 <;> by_cases h2 : Used i T1
  · have h3 := not_past_of_used h2
    rw [if_pos h2]
    exact ⟨_, held_scr c arg8 x5, by rw [← freshUsed_ps c i arg3 harg3 arg4 harg4 arg5 harg5 arg6 harg6 arg7 harg7 arg8 harg8 arg9 harg9 arg10 harg10 T0 T1 x0 x1 x2 x3 x4 x5 x6 xa h1 h2 h3]; exact (runFreshUsed c i arg3 harg3 arg4 harg4 arg5 harg5 arg6 harg6 arg7 harg7 arg8 harg8 arg9 harg9 arg10 harg10 T0 T1 x0 x1 x2 x3 x4 x5 x6 xa h1 h2 h3).2⟩
  · have h3 := past_of_not_used h2
    rw [if_neg h2]
    exact ⟨_, held_scr c arg8 x5, runFreshPast c i arg3 harg3 arg4 harg4 arg5 harg5 arg6 harg6 arg7 harg7 arg8 harg8 arg9 harg9 arg10 harg10 T0 T1 x0 x1 x2 x3 x4 x5 x6 xa h1 h2 h3⟩
  · have h3 := not_past_of_used h2
    rw [if_pos h2]
    exact aux _ (runKeepUsed c i arg3 harg3 arg4 harg4 arg5 harg5 arg6 harg6 arg7 harg7 arg8 harg8 arg9 harg9 arg10 harg10 T0 T1 x0 x1 x2 x3 x4 x5 x6 xa h1 h2 h3) ((keepUsed_ps c i arg3 harg3 arg4 harg4 arg5 harg5 arg6 harg6 arg7 harg7 arg8 harg8 arg9 harg9 arg10 harg10 T0 T1 x0 x1 x2 x3 x4 x5 x6 xa h1 h2 h3).trans (by rw [hxa h1])) (hxa h1)
  · have h3 := past_of_not_used h2
    rw [if_neg h2]
    exact ⟨xa, hxa h1, runKeepPast c i arg3 harg3 arg4 harg4 arg5 harg5 arg6 harg6 arg7 harg7 arg8 harg8 arg9 harg9 arg10 harg10 T0 T1 x0 x1 x2 x3 x4 x5 x6 xa h1 h2 h3⟩

end Paths

end Cert.ExpertsIdeal.Exp

end
-- ==== Proof.ExpIdeal.Frame.lean ====
/- The experts' launch at any tables that keep every block inside its array: what each point finds and leaves, and the run. -/
module

public import proofs.«01_k».proof.Proof.ExpIdeal.Leaves

@[expose] public section

set_option maxRecDepth 16384
set_option Elab.async false

noncomputable section

namespace Cert.ExpertsIdeal.Exp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The logic's model at this program. -/
local notation "𝕄" => MT nD τ sig Unit (Elt Ideal) ℕ (UR sig nD τ) ℕ

/-- The stores of a block in use reach every entry of the output block: row `y1`'s lane group is `y1 % 8`. -/
theorem yps_cover (R : (r : LoadRect S2x2048x128) → r.shape.Idx → Elt Ideal .f32) (x1 x2 : S1x2048x1024.Idx → Elt Ideal .bf16) (x3 x4 : S1x1x1024.Idx → Elt Ideal .f32)
    (sc : S1024x2048.Idx → Elt Ideal .bf16) (x6 : S1x1x2048.Idx → Elt Ideal .f32) (y : S2x2048x128.Idx) :
    ∃ p ∈ yps R x1 x2 x3 x4 sc x6, y ∈ p.1.set := by
  have hy0 : (y 0).val < 2 := (y 0).isLt
  have hy1 : (y 1).val < 2048 := (y 1).isLt
  have hy2 : (y 2).val < 128 := (y 2).isLt
  have mem : ∀ (h j : ℕ) (hb), (y 0).val = h → (y 1).val % 8 = j →
      y ∈ (⟨![h, j, 0], S1x256x128.size, ![1, 8, 1], hb⟩ : LoadRect S2x2048x128).set := by
    intro h j hb e0 e1
    refine LoadRect.mem_set _ |>.mpr fun a => ?_
    fin_cases a
    · exact ⟨0, Nat.one_pos, by simpa using e0⟩
    · exact ⟨(y 1).val / 8, show (y 1).val / 8 < 256 by omega, show (y 1).val = j + 8 * ((y 1).val / 8) by omega⟩
    · exact ⟨(y 2).val, hy2, show (y 2).val = 0 + 1 * (y 2).val by omega⟩
  unfold yps
  rcases (show (y 0).val = 0 ∨ (y 0).val = 1 by omega) with e0 | e0 <;>
  rcases (show (y 1).val % 8 = 0 ∨ (y 1).val % 8 = 1 ∨ (y 1).val % 8 = 2 ∨ (y 1).val % 8 = 3 ∨ (y 1).val % 8 = 4 ∨ (y 1).val % 8 = 5 ∨ (y 1).val % 8 = 6 ∨ (y 1).val % 8 = 7 by omega) with e1 | e1 | e1 | e1 | e1 | e1 | e1 | e1
  · exact ⟨_, .tail _ (.tail _ (.tail _ (.tail _ (.tail _ (.tail _ (.tail _ (.tail _ (.tail _ (.tail _ (.tail _ (.tail _ (.tail _ (.tail _ (.tail _ (.head _))))))))))))))), mem 0 0 _ e0 e1⟩
  · exact ⟨_, .tail _ (.tail _ (.tail _ (.tail _ (.tail _ (.tail _ (.tail _ (.tail _ (.tail _ (.tail _ (.tail _ (.tail _ (.tail _ (.tail _ (.head _)))))))))))))), mem 0 1 _ e0 e1⟩
  · exact ⟨_, .tail _ (.tail _ (.tail _ (.tail _ (.tail _ (.tail _ (.tail _ (.tail _ (.tail _ (.tail _ (.tail _ (.tail _ (.tail _ (.head _))))))))))))), mem 0 2 _ e0 e1⟩
  · exact ⟨_, .tail _ (.tail _ (.tail _ (.tail _ (.tail _ (.tail _ (.tail _ (.tail _ (.tail _ (.tail _ (.tail _ (.tail _ (.head _)))))))))))), mem 0 3 _ e0 e1⟩
  · exact ⟨_, .tail _ (.tail _ (.tail _ (.tail _ (.tail _ (.tail _ (.tail _ (.tail _ (.tail _ (.tail _ (.tail _ (.head _))))))))))), mem 0 4 _ e0 e1⟩
  · exact ⟨_, .tail _ (.tail _ (.tail _ (.tail _ (.tail _ (.tail _ (.tail _ (.tail _ (.tail _ (.tail _ (.head _)))))))))), mem 0 5 _ e0 e1⟩
  · exact ⟨_, .tail _ (.tail _ (.tail _ (.tail _ (.tail _ (.tail _ (.tail _ (.tail _ (.tail _ (.head _))))))))), mem 0 6 _ e0 e1⟩
  · exact ⟨_, .tail _ (.tail _ (.tail _ (.tail _ (.tail _ (.tail _ (.tail _ (.tail _ (.head _)))))))), mem 0 7 _ e0 e1⟩
  · exact ⟨_, .tail _ (.tail _ (.tail _ (.tail _ (.tail _ (.tail _ (.tail _ (.head _))))))), mem 1 0 _ e0 e1⟩
  · exact ⟨_, .tail _ (.tail _ (.tail _ (.tail _ (.tail _ (.tail _ (.head _)))))), mem 1 1 _ e0 e1⟩
  · exact ⟨_, .tail _ (.tail _ (.tail _ (.tail _ (.tail _ (.head _))))), mem 1 2 _ e0 e1⟩
  · exact ⟨_, .tail _ (.tail _ (.tail _ (.tail _ (.head _)))), mem 1 3 _ e0 e1⟩
  · exact ⟨_, .tail _ (.tail _ (.tail _ (.head _))), mem 1 4 _ e0 e1⟩
  · exact ⟨_, .tail _ (.tail _ (.head _)), mem 1 5 _ e0 e1⟩
  · exact ⟨_, .tail _ (.head _), mem 1 6 _ e0 e1⟩
  · exact ⟨_, .head _, mem 1 7 _ e0 e1⟩

/-- A point's stores reach every entry. -/
theorem bps_cover (i : grid0.Coords) (T1 : S1.Idx → Elt Ideal .i32) (x0 : S2x2048x128.Idx → Elt Ideal .f32) (x1 x2 : S1x2048x1024.Idx → Elt Ideal .bf16)
    (x3 x4 : S1x1x1024.Idx → Elt Ideal .f32) (x5 : S1x1x1024x2048.Idx → Elt Ideal .f32) (x6 : S1x1x2048.Idx → Elt Ideal .f32) (y : S2x2048x128.Idx) :
    ∃ p ∈ bps i T1 x0 x1 x2 x3 x4 x5 x6, y ∈ p.1.set := by
  unfold bps
  split
  · exact yps_cover _ _ _ _ _ _ _ y
  · refine ⟨_, .head _, (Rect.mem_set_unit (s := S2x2048x128) (inb := inb_S2x2048x128_S2x2048x128_0_0_0)).mpr fun a => ?_⟩
    have h := (y a).isLt
    fin_cases a <;> exact ⟨Nat.zero_le _, by simpa using h⟩

/-! ## When the weights are not new -/

/-- The weights not being new, the point is not the first and its expert is the expert of the point before. -/
theorem of_not_fresh {i : grid0.Coords} {T0 : S160.Idx → Elt Ideal .i32} (h : ¬Fresh i T0) :
    BitVec.ofNat 32 (i 0).val ≠ 0#32 ∧ beHere i T0 = bePrev i T0 := by
  have key : ∀ b1 b2 : Bool, BitVec.ofBool (BitVec.setWidth 32 (IntOp.ori (BitVec.ofBool b1) (BitVec.ofBool b2)) != 0#32) = 1#1 ↔ (b1 = true ∨ b2 = true) := by decide
  have h' : ¬(BitVec.ofBool (BitVec.setWidth 32 (IntOp.ori (BitVec.ofBool (BitVec.ofNat 32 (i 0).val == 0#32)) (BitVec.ofBool (beHere i T0 != bePrev i T0))) != 0#32) = 1#1) := h
  rw [key, not_or] at h'
  exact ⟨fun e => h'.1 (by rw [e]; rfl), by simpa using h'.2⟩

/-- One of the two conditions always holds: the output block is stored at every point. -/
theorem not_idle (i : grid0.Coords) (w : BitVec 32) : (!(k0_cond2 i w == 1#1) && !(k0_cond3 i w == 1#1)) = false := by
  unfold k0_cond2 k0_cond3
  generalize BitVec.ofNat 32 (i 0).val = v
  simp only [Scalar.cmpi, Scalar.extui, IntOp.cmpi, BitVec.sle_eq_not_slt]
  generalize v.slt w = b
  revert b; decide

/-- The grid's points are its one coordinate. -/
theorem crd_val : ∀ t : Fin grid0.N, (grid0.coords t 0).val = t.val := by decide +kernel

/-- The word before a point's is the point before's. -/
theorem off_prev : ∀ t : Fin grid0.N, ∀ h : 0 < t.val, k0_off2 (grid0.coords t) = k0_off1 (grid0.coords ⟨t.val - 1, by omega⟩) := by decide +kernel

theorem be_prev (t : Fin grid0.N) (h : 0 < t.val) (T0 : S160.Idx → Elt Ideal .i32) :
    bePrev (grid0.coords t) T0 = beHere (grid0.coords ⟨t.val - 1, by omega⟩) T0 := by
  have aux : ∀ (o o' : Fin 1 → ℕ) (ho) (ho'), o = o' →
      View.readAt (Elt Ideal) beM.view (Rect.unit (s := S160) o S1.size ho).toLoadRect T0 (Shape.Idx.first (numel1_S1.symm ▸ Nat.one_pos))
      = View.readAt (Elt Ideal) beM.view (Rect.unit (s := S160) o' S1.size ho').toLoadRect T0 (Shape.Idx.first (numel1_S1.symm ▸ Nat.one_pos)) := by
    intro o o' ho ho' e; subst e; rfl
  exact aux _ _ _ _ (off_prev t h)

/-! ## The pipeline at the tables `T` -/

section Launch

variable (T : pre0.Contents (Elt Ideal)) (ok : ok0 (F := Ideal) T)
variable (m : (ℓ : Loc nD τ sig) → Buf (Elt Ideal) ℓ) (ρ : Dev nD → PrngReg)

/-- The two tables, at their shapes. -/
abbrev tb0 : S160.Idx → Elt Ideal .i32 := T 0
abbrev tb1 : S1.Idx → Elt Ideal .i32 := T 1

/-- The tables with their side condition, and the pipeline at them. -/
abbrev adm : (pcfg0 (F := Ideal)).Adm := ⟨T, ok⟩
abbrev cfgA : Pipeline.Cfg sig Λ₀ := cfg0 (F := Ideal) (adm T ok)
abbrev pcs : Fin 1 → Pipeline.Cfg sig Λ₀ := Pipeline.pin (pcfgs (F := Ideal)) fun _ => adm T ok

/-- A point's coordinates, and each window's buffer there. -/
abbrev crd (t : Fin (cfgA T ok).N) : (cfgA T ok).grid.Coords := (cfgA T ok).grid.coords t
abbrev ms0 (t : Fin (cfgA T ok).N) : Memref sig .tc .vmem S2x2048x128 .f32 := spec0_0.stage ((cfgA T ok).slots t (0 : Fin 8))
abbrev hs0 (t : Fin (cfgA T ok).N) : (ms0 T ok t).IsWhole := hstage0_0 (((cfgA T ok).slots t (0 : Fin 8)).cast nbuf0_0)
abbrev ms1 (t : Fin (cfgA T ok).N) : Memref sig .tc .vmem S1x2048x1024 .bf16 := spec0_1.stage ((cfgA T ok).slots t (1 : Fin 8))
abbrev hs1 (t : Fin (cfgA T ok).N) : (ms1 T ok t).IsWhole := hstage0_1 (((cfgA T ok).slots t (1 : Fin 8)).cast nbuf0_1)
abbrev ms2 (t : Fin (cfgA T ok).N) : Memref sig .tc .vmem S1x2048x1024 .bf16 := spec0_2.stage ((cfgA T ok).slots t (2 : Fin 8))
abbrev hs2 (t : Fin (cfgA T ok).N) : (ms2 T ok t).IsWhole := hstage0_2 (((cfgA T ok).slots t (2 : Fin 8)).cast nbuf0_2)
abbrev ms3 (t : Fin (cfgA T ok).N) : Memref sig .tc .vmem S1x1x1024 .f32 := spec0_3.stage ((cfgA T ok).slots t (3 : Fin 8))
abbrev hs3 (t : Fin (cfgA T ok).N) : (ms3 T ok t).IsWhole := hstage0_3 (((cfgA T ok).slots t (3 : Fin 8)).cast nbuf0_3)
abbrev ms4 (t : Fin (cfgA T ok).N) : Memref sig .tc .vmem S1x1x1024 .f32 := spec0_4.stage ((cfgA T ok).slots t (4 : Fin 8))
abbrev hs4 (t : Fin (cfgA T ok).N) : (ms4 T ok t).IsWhole := hstage0_4 (((cfgA T ok).slots t (4 : Fin 8)).cast nbuf0_4)
abbrev ms5 (t : Fin (cfgA T ok).N) : Memref sig .tc .vmem S1x1x1024x2048 .f32 := spec0_5.stage ((cfgA T ok).slots t (5 : Fin 8))
abbrev hs5 (t : Fin (cfgA T ok).N) : (ms5 T ok t).IsWhole := hstage0_5 (((cfgA T ok).slots t (5 : Fin 8)).cast nbuf0_5)
abbrev ms6 (t : Fin (cfgA T ok).N) : Memref sig .tc .vmem S1x1x2048 .f32 := spec0_6.stage ((cfgA T ok).slots t (6 : Fin 8))
abbrev hs6 (t : Fin (cfgA T ok).N) : (ms6 T ok t).IsWhole := hstage0_6 (((cfgA T ok).slots t (6 : Fin 8)).cast nbuf0_6)
abbrev ms7 (t : Fin (cfgA T ok).N) : Memref sig .tc .vmem S2x2048x128 .f32 := spec0_7.stage ((cfgA T ok).slots t (7 : Fin 8))
abbrev hs7 (t : Fin (cfgA T ok).N) : (ms7 T ok t).IsWhole := hstage0_7 (((cfgA T ok).slots t (7 : Fin 8)).cast nbuf0_7)

/-- A window's block at a point, read off its array as launched. -/
def iblk (c : Dev nD) (w : Fin (cfgA T ok).W) (t : Fin (cfgA T ok).N) : (((cfgA T ok).win w).xblock (crd T ok t)).Idx → Elt Ideal ((cfgA T ok).win w).elt :=
  (((cfgA T ok).win w).blk t).view.read (Elt Ideal) ((s₀ m ρ).mem (((cfgA T ok).win w).arr.view.loc (c : Thread nD τ)))

/-- What a point leaves in the output block. -/
def oblk (c : Dev nD) (t : Fin (cfgA T ok).N) : S2x2048x128.Idx → Elt Ideal .f32 :=
  View.canon (bps (crd T ok t) (tb1 T) (iblk T ok m ρ c (0 : Fin 8) t) (iblk T ok m ρ c (1 : Fin 8) t) (iblk T ok m ρ c (2 : Fin 8) t) (iblk T ok m ρ c (3 : Fin 8) t) (iblk T ok m ρ c (4 : Fin 8) t) (iblk T ok m ρ c (5 : Fin 8) t) (iblk T ok m ρ c (6 : Fin 8) t))

/-- Before a point: past the first, the scratch holds the weights of the point before; the body's halves of the tables. -/
def Phi (c : Dev nD) (t : Fin ((cfgA T ok).N + 1)) : sProp 𝕄 :=
  iprop((∃ a : Buf (Elt Ideal) ((c : Thread nD τ).loc cc0_scratch0), ⌜∀ h : 0 < t.val, held a = k0_pay1 (F := Ideal) (iblk T ok m ρ c (5 : Fin 8) ⟨t.val - 1, by omega⟩)⌝
      ∗ (scM.view.loc (c : Thread nD τ) ↦{fullShare} a))
    ∗ (beM.view.loc (c : Thread nD τ) ↦{fullShare.right} tb0 T) ∗ (nuM.view.loc (c : Thread nD τ) ↦{fullShare.right} tb1 T))

/-- The proof data of the pipeline on a core. -/
def dats (_ : Fin 1) (c : Dev nD) : Dat τ (Elt Ideal) Unit ℕ (UR sig nD τ) ℕ (cfgA T ok) c where
  A w := (s₀ m ρ).mem (((cfgA T ok).win w).arr.view.loc (c : Thread nD τ))
  after w t := match w with
    | ⟨0, _⟩ => iblk T ok m ρ c (0 : Fin 8) t
    | ⟨1, _⟩ => iblk T ok m ρ c (1 : Fin 8) t
    | ⟨2, _⟩ => iblk T ok m ρ c (2 : Fin 8) t
    | ⟨3, _⟩ => iblk T ok m ρ c (3 : Fin 8) t
    | ⟨4, _⟩ => iblk T ok m ρ c (4 : Fin 8) t
    | ⟨5, _⟩ => iblk T ok m ρ c (5 : Fin 8) t
    | ⟨6, _⟩ => iblk T ok m ρ c (6 : Fin 8) t
    | ⟨7, _⟩ => oblk T ok m ρ c t
  Φ t := Phi T ok m ρ c t
  q _ := fullShare
  owed _ := 0

theorem after_0 (c : Dev nD) (t : Fin (cfgA T ok).N) : (dats T ok m ρ 0 c).after (0 : Fin 8) t = iblk T ok m ρ c (0 : Fin 8) t := rfl
theorem after_1 (c : Dev nD) (t : Fin (cfgA T ok).N) : (dats T ok m ρ 0 c).after (1 : Fin 8) t = iblk T ok m ρ c (1 : Fin 8) t := rfl
theorem after_2 (c : Dev nD) (t : Fin (cfgA T ok).N) : (dats T ok m ρ 0 c).after (2 : Fin 8) t = iblk T ok m ρ c (2 : Fin 8) t := rfl
theorem after_3 (c : Dev nD) (t : Fin (cfgA T ok).N) : (dats T ok m ρ 0 c).after (3 : Fin 8) t = iblk T ok m ρ c (3 : Fin 8) t := rfl
theorem after_4 (c : Dev nD) (t : Fin (cfgA T ok).N) : (dats T ok m ρ 0 c).after (4 : Fin 8) t = iblk T ok m ρ c (4 : Fin 8) t := rfl
theorem after_5 (c : Dev nD) (t : Fin (cfgA T ok).N) : (dats T ok m ρ 0 c).after (5 : Fin 8) t = iblk T ok m ρ c (5 : Fin 8) t := rfl
theorem after_6 (c : Dev nD) (t : Fin (cfgA T ok).N) : (dats T ok m ρ 0 c).after (6 : Fin 8) t = iblk T ok m ρ c (6 : Fin 8) t := rfl
theorem after_7 (c : Dev nD) (t : Fin (cfgA T ok).N) : (dats T ok m ρ 0 c).after (7 : Fin 8) t = oblk T ok m ρ c t := rfl

theorem before_0 (c : Dev nD) (t : Fin (cfgA T ok).N) (d) : (dats T ok m ρ 0 c).before (0 : Fin 8) t d = iblk T ok m ρ c (0 : Fin 8) t :=
  ((dats T ok m ρ 0 c).before_in_eq_fetched (0 : Fin 8) rfl (fun _ => rfl) (fun _ _ _ => rfl) (fun t => by rw [after_0]; unfold Dat.blockOf iblk; rfl) t d).trans
    (by unfold Dat.fetched Dat.blockOf iblk; rfl)

theorem before_1 (c : Dev nD) (t : Fin (cfgA T ok).N) (d) : (dats T ok m ρ 0 c).before (1 : Fin 8) t d = iblk T ok m ρ c (1 : Fin 8) t :=
  ((dats T ok m ρ 0 c).before_in_eq_fetched (1 : Fin 8) rfl (fun _ => rfl) (fun _ _ _ => rfl) (fun t => by rw [after_1]; unfold Dat.blockOf iblk; rfl) t d).trans
    (by unfold Dat.fetched Dat.blockOf iblk; rfl)

theorem before_2 (c : Dev nD) (t : Fin (cfgA T ok).N) (d) : (dats T ok m ρ 0 c).before (2 : Fin 8) t d = iblk T ok m ρ c (2 : Fin 8) t :=
  ((dats T ok m ρ 0 c).before_in_eq_fetched (2 : Fin 8) rfl (fun _ => rfl) (fun _ _ _ => rfl) (fun t => by rw [after_2]; unfold Dat.blockOf iblk; rfl) t d).trans
    (by unfold Dat.fetched Dat.blockOf iblk; rfl)

theorem before_3 (c : Dev nD) (t : Fin (cfgA T ok).N) (d) : (dats T ok m ρ 0 c).before (3 : Fin 8) t d = iblk T ok m ρ c (3 : Fin 8) t :=
  ((dats T ok m ρ 0 c).before_in_eq_fetched (3 : Fin 8) rfl (fun _ => rfl) (fun _ _ _ => rfl) (fun t => by rw [after_3]; unfold Dat.blockOf iblk; rfl) t d).trans
    (by unfold Dat.fetched Dat.blockOf iblk; rfl)

theorem before_4 (c : Dev nD) (t : Fin (cfgA T ok).N) (d) : (dats T ok m ρ 0 c).before (4 : Fin 8) t d = iblk T ok m ρ c (4 : Fin 8) t :=
  ((dats T ok m ρ 0 c).before_in_eq_fetched (4 : Fin 8) rfl (fun _ => rfl) (fun _ _ _ => rfl) (fun t => by rw [after_4]; unfold Dat.blockOf iblk; rfl) t d).trans
    (by unfold Dat.fetched Dat.blockOf iblk; rfl)

theorem before_5 (c : Dev nD) (t : Fin (cfgA T ok).N) (d) : (dats T ok m ρ 0 c).before (5 : Fin 8) t d = iblk T ok m ρ c (5 : Fin 8) t :=
  ((dats T ok m ρ 0 c).before_in_eq_fetched (5 : Fin 8) rfl (fun _ => rfl) (fun _ _ _ => rfl) (fun t => by rw [after_5]; unfold Dat.blockOf iblk; rfl) t d).trans
    (by unfold Dat.fetched Dat.blockOf iblk; rfl)

theorem before_6 (c : Dev nD) (t : Fin (cfgA T ok).N) (d) : (dats T ok m ρ 0 c).before (6 : Fin 8) t d = iblk T ok m ρ c (6 : Fin 8) t :=
  ((dats T ok m ρ 0 c).before_in_eq_fetched (6 : Fin 8) rfl (fun _ => rfl) (fun _ _ _ => rfl) (fun t => by rw [after_6]; unfold Dat.blockOf iblk; rfl) t d).trans
    (by unfold Dat.fetched Dat.blockOf iblk; rfl)

/-- The launch cells embedded whole. -/
abbrev EP : Emb (UR sig nD τ) 𝕄 := emb₁

/-- Two points of one expert have one block of output weights. -/
theorem iblk5_congr (c : Dev nD) (t t' : Fin (cfgA T ok).N) (h : beHere (crd T ok t) (tb0 T) = beHere (crd T ok t') (tb0 T)) :
    iblk T ok m ρ c (5 : Fin 8) t = iblk T ok m ρ c (5 : Fin 8) t' := by
  have hi : ((cfgA T ok).win (5 : Fin 8)).index t = ((cfgA T ok).win (5 : Fin 8)).index t' := by
    have e : ∀ s : Fin (cfgA T ok).N, ((cfgA T ok).win (5 : Fin 8)).index s = ![(0#32 : BitVec 32).toNat, (beHere (crd T ok s) (tb0 T)).toNat, (0#32 : BitVec 32).toNat, (0#32 : BitVec 32).toNat] := fun _ => rfl
    rw [e, e, h]
  have f := (dats T ok m ρ 0 c).fetched_congr (5 : Fin 8) hi rfl (iblk T ok m ρ c (5 : Fin 8) t)
  have g : ∀ s : Fin (cfgA T ok).N, (dats T ok m ρ 0 c).fetched (5 : Fin 8) s (iblk T ok m ρ c (5 : Fin 8) t) = iblk T ok m ρ c (5 : Fin 8) s := fun s => by
    unfold Dat.fetched Dat.blockOf iblk; rfl
  exact (g t).symm.trans (f.trans (g t'))

/-- What the scratch held before a point whose weights are not new is the point's own weights. -/
theorem held_of_not_fresh (c : Dev nD) (t : Fin (cfgA T ok).N) (a : Buf (Elt Ideal) ((c : Thread nD τ).loc cc0_scratch0))
    (ha : ∀ h : 0 < t.val, held a = k0_pay1 (F := Ideal) (iblk T ok m ρ c (5 : Fin 8) ⟨t.val - 1, by omega⟩))
    (hf : ¬Fresh (crd T ok t) (tb0 T)) : held a = k0_pay1 (F := Ideal) (iblk T ok m ρ c (5 : Fin 8) t) := by
  obtain ⟨h0, hb⟩ := of_not_fresh hf
  have hv : (crd T ok t 0).val = t.val := crd_val t
  have ht : 0 < t.val := by
    rcases Nat.eq_zero_or_pos t.val with e | e
    · exact absurd (by rw [hv, e]) h0
    · exact e
  rw [ha ht]
  refine congrArg (k0_pay1 (F := Ideal)) (iblk5_congr T ok m ρ c t ⟨t.val - 1, by omega⟩ ?_).symm
  exact hb.trans (be_prev t ht (tb0 T))

/-- The body at a point, as the pipeline calls it. -/
abbrev bodyAt (t : Fin (cfgA T ok).N) : Prog (TpuEff nD τ sig (Elt Ideal) Λ₀ .tc) PUnit :=
  cc0_moe_experts (crd T ok t) beM (Memref.isWhole_whole _) nuM (Memref.isWhole_whole _) (ms0 T ok t) (hs0 T ok t) (ms1 T ok t) (hs1 T ok t) (ms2 T ok t) (hs2 T ok t) (ms3 T ok t) (hs3 T ok t) (ms4 T ok t) (hs4 T ok t) (ms5 T ok t) (hs5 T ok t) (ms6 T ok t) (hs6 T ok t) (ms7 T ok t) (hs7 T ok t) scM (Memref.isWhole_whole _)

set_option maxHeartbeats 4000000 in
/-- THE OBLIGATION of a point: from what the pipeline hands the body, the body leaves what the data say. -/
theorem sound (c : Dev nD) (t : Fin (cfgA T ok).N) :
    iprop((dats T ok m ρ 0 c).Φ t.castSucc ∗ (dats T ok m ρ 0 c).owesAt () t.castSucc
        ∗ (∃ d, owns (c : Thread nD τ) (ms0 T ok t) fullShare ((dats T ok m ρ 0 c).before (0 : Fin 8) t d))
        ∗ (∃ d, owns (c : Thread nD τ) (ms1 T ok t) fullShare ((dats T ok m ρ 0 c).before (1 : Fin 8) t d))
        ∗ (∃ d, owns (c : Thread nD τ) (ms2 T ok t) fullShare ((dats T ok m ρ 0 c).before (2 : Fin 8) t d))
        ∗ (∃ d, owns (c : Thread nD τ) (ms3 T ok t) fullShare ((dats T ok m ρ 0 c).before (3 : Fin 8) t d))
        ∗ (∃ d, owns (c : Thread nD τ) (ms4 T ok t) fullShare ((dats T ok m ρ 0 c).before (4 : Fin 8) t d))
        ∗ (∃ d, owns (c : Thread nD τ) (ms5 T ok t) fullShare ((dats T ok m ρ 0 c).before (5 : Fin 8) t d))
        ∗ (∃ d, owns (c : Thread nD τ) (ms6 T ok t) fullShare ((dats T ok m ρ 0 c).before (6 : Fin 8) t d))
        ∗ (∃ d, owns (c : Thread nD τ) (ms7 T ok t) fullShare ((dats T ok m ρ 0 c).before (7 : Fin 8) t d)))
      ⊢ wp frame (wpE (defs₀ (F := Ideal)) Variants.none c none) Set.univ (bodyAt T ok t) fun _ =>
          iprop((dats T ok m ρ 0 c).Φ t.succ ∗ (dats T ok m ρ 0 c).owesAt () t.succ
            ∗ bigSep Finset.univ fun w : Fin (cfgA T ok).W =>
                match (cfgA T ok).idle w ((cfgA T ok).grid.coords t) with
                | true =>
                  match ((cfgA T ok).win w).flush t with
                  | false => iprop(∃ d, owns (c : Thread nD τ) (((cfgA T ok).win w).stage ((cfgA T ok).slots t w)) fullShare ((dats T ok m ρ 0 c).before w t d))
                  | true => owns (c : Thread nD τ) (((cfgA T ok).win w).stage ((cfgA T ok).slots t w)) fullShare ((dats T ok m ρ 0 c).after w t)
                | false => owns (c : Thread nD τ) (((cfgA T ok).win w).stage ((cfgA T ok).slots t w)) fullShare ((dats T ok m ρ 0 c).after w t)) := by
  rw [bigSep_W0]
  have i7 : (cfgA T ok).idle (7 : Fin 8) ((cfgA T ok).grid.coords t) = false := not_idle (crd T ok t) _
  rewrite [i7]
  simp only [before_0, before_1, before_2, before_3, before_4, before_5, before_6, after_0, after_1, after_2, after_3, after_4, after_5, after_6, after_7]
  rewrite [show (dats T ok m ρ 0 c).Φ t.succ = Phi T ok m ρ c t.succ from rfl, show (dats T ok m ρ 0 c).Φ t.castSucc = Phi T ok m ρ c t.castSucc from rfl,
    show (dats T ok m ρ 0 c).owesAt () t.succ = (dats T ok m ρ 0 c).owesAt () t.castSucc from rfl]
  unfold Phi
  iintro ⟨⟨⟨%a, %ha, HS⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain ⟨sc, hsc, run⟩ := body c (crd T ok t) (ms0 T ok t) (hs0 T ok t) (ms1 T ok t) (hs1 T ok t) (ms2 T ok t) (hs2 T ok t) (ms3 T ok t) (hs3 T ok t) (ms4 T ok t) (hs4 T ok t) (ms5 T ok t) (hs5 T ok t) (ms6 T ok t) (hs6 T ok t) (ms7 T ok t) (hs7 T ok t) (tb0 T) (tb1 T)
    (iblk T ok m ρ c (0 : Fin 8) t) (iblk T ok m ρ c (1 : Fin 8) t) (iblk T ok m ρ c (2 : Fin 8) t) (iblk T ok m ρ c (3 : Fin 8) t) (iblk T ok m ρ c (4 : Fin 8) t) (iblk T ok m ρ c (5 : Fin 8) t) (iblk T ok m ρ c (6 : Fin 8) t)
    a (held_of_not_fresh T ok m ρ c t a ha)
  iapply (run _)
  isplitl [H0 H1 H2 H3 H4 H5 H6 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    iexact HT1
  isplitl [H7]; · iexists _; iexact H7
  isplitl [HS]; · iexact HS
  iintro ⟨⟨H0, H1, H2, H3, H4, H5, H6, HT0, HT1⟩, ⟨%e7, H7⟩, HS⟩
  isplitl [HS HT0 HT1]
  · isplitl [HS]
    · iexists _; isplitr; swap
      · iexact HS
      · ipureintro; intro hn; exact hsc
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  isplitl [H6]
  · iapply owns_of_rep; iexact H6
  unfold owns; iexists _; isplitr; swap
  · iexact H7
  · ipureintro; exact View.read_writes_eq_canon _ _ _ (bps_cover _ _ _ _ _ _ _ _ _)

/-- The library's obligation, at every point. -/
theorem obligation (c : Dev nD) : BodyObligation (dats T ok m ρ 0 c) (defs₀ (F := Ideal)) Variants.none () Set.univ := fun t => by
  rw [bigSep_W0]
  exact sound T ok m ρ c t

/-- The launch element. -/
def u₀ : UR sig nD τ :=
  initOf (Pipeline.cells (pcs T ok) ((launch0 (F := Ideal)).cellOf_inj fun _ => adm T ok))
    (Pipeline.launchToks (pcs T ok) ((launch0 (F := Ideal)).cellOf_inj fun _ => adm T ok))

theorem share_eq (c : Dev nD) (w : Fin (cfgA T ok).W) : (dats T ok m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm T ok).1 ∗ Pipeline.scopedRest spec0 c) ⊢ (dats T ok m ρ 0 c).Φ 0 := by
  rw [prefHeld_eq, scopedRest0_eq, show (dats T ok m ρ 0 c).Φ 0 = Phi T ok m ρ c 0 from rfl]
  unfold Phi
  iintro ⟨-, ⟨HT0, HT1⟩, ⟨%a0, HS0⟩⟩
  isplitl [HS0]
  · iexists a0; isplitr; swap
    · iexact HS0
    · ipureintro; intro h; exact absurd h (Nat.lt_irrefl 0)
  isplitl [HT0]
  · iexact HT0
  iexact HT1

/-- at the last point it gives the scratch buffers back (`hout`), the tables let go. -/
theorem phiN_exit (c : Dev nD) : (dats T ok m ρ 0 c).Φ (Fin.last (cfgA T ok).N) ⊢ iprop(BI.emp ∗ Pipeline.scopedRest spec0 c) := by
  rw [scopedRest0_eq, show (dats T ok m ρ 0 c).Φ (Fin.last (cfgA T ok).N) = Phi T ok m ρ c (Fin.last _) from rfl]
  unfold Phi
  iintro ⟨⟨%a0, -, HS0⟩, -, -⟩
  isplitr; · iempintro
  iexists a0; iexact HS0

/-- The state a run ends in: every array at what the data say, every table as it was. -/
def QC : PUnit × MemSt nD τ sig (Elt Ideal) → Prop := fun r =>
  ∀ c : Dev nD, (∀ w : Fin (cfgA T ok).W, r.2.mem (((cfgA T ok).win w).arr.view.loc (c : Thread nD τ)) = (dats T ok m ρ 0 c).arrAt w (cfgA T ok).N)
    ∧ ∀ j, r.2.mem ((c : Thread nD τ).loc (pre0.ref j)) = (adm T ok).1 j

/-- The memory holds the tables `T` on every core. -/
def At (m : (ℓ : Loc nD τ sig) → Buf (Elt Ideal) ℓ) : Prop :=
  (∀ c : Dev nD, m ((c : Thread nD τ).loc main_arg0) = tb0 T) ∧ (∀ c : Dev nD, m ((c : Thread nD τ).loc main_arg1) = tb1 T)

theorem V_pre (hp : At T m) (c : Dev nD) (j : Fin 2) : m ((c : Thread nD τ).loc (pre0.ref j)) = T j := by
  fin_cases j
  · exact hp.1 c
  · exact hp.2 c

set_option backward.isDefEq.respectTransparency.types false in
set_option maxHeartbeats 4000000 in
/-- From any memory holding the tables with zero counters every fair run of the launch ends, each array at what the data say, every counter zero. -/
theorem run_main_quiescent (hp : At T m) : θ_run (defs (F := Ideal)) (onTc (τ := τ) (main (F := Ideal))) (s₀ m ρ) (fun r => QC T ok m ρ r ∧ r.2.sem = fun _ => 0) :=
  Pipeline.θ_run_region_noSem_pf_quiescent pcfgs (fun _ => adm T ok) (dats T ok m ρ) () ((launch0 (F := Ideal)).cellOf_inj fun _ => adm T ok) (0 : Fin 1)
    (launch0 (F := Ideal)).win.to₀ (launch0 (F := Ideal)).pre EP defs₀ Variants.none m ρ main
    (hbody := fun c => (obligation T ok m ρ c).loose) (hne := (launch0 (F := Ideal)).block_pos)
    (harr := (launch0 (F := Ideal)).arr_whole) (hstage := (launch0 (F := Ideal)).stage_whole) (howed := fun _ _ => rfl)
    (u₀ := u₀ T ok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T ok) (dats T ok m ρ) 0 (launch0 (F := Ideal)).win.arr_inj c (launch0 (F := Ideal)).arr_whole
      (share_eq T ok m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T ok m ρ)
    (hout := phiN_exit T ok m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : At T m) : θ_run (defs (F := Ideal)) (onTc (τ := τ) (main (F := Ideal))) (s₀ m ρ) (QC T ok m ρ) :=
  (θ_run defs _ _).mono (fun _ h => h.1) (run_main_quiescent T ok m ρ hp)

include ok in
/-- `frame` without the counters: the argument arrays end unchanged. -/
theorem unchanged (hp : At T m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 0).trans (hp.1 c).symm, ((h c).2 1).trans (hp.2 c).symm, ((h c).1 (0 : Fin 8)).trans ((dats T ok m ρ 0 c).arrAt_in (0 : Fin 8) rfl _), ((h c).1 (1 : Fin 8)).trans ((dats T ok m ρ 0 c).arrAt_in (1 : Fin 8) rfl _), ((h c).1 (2 : Fin 8)).trans ((dats T ok m ρ 0 c).arrAt_in (2 : Fin 8) rfl _), ((h c).1 (3 : Fin 8)).trans ((dats T ok m ρ 0 c).arrAt_in (3 : Fin 8) rfl _), ((h c).1 (4 : Fin 8)).trans ((dats T ok m ρ 0 c).arrAt_in (4 : Fin 8) rfl _), ((h c).1 (5 : Fin 8)).trans ((dats T ok m ρ 0 c).arrAt_in (5 : Fin 8) rfl _), ((h c).1 (6 : Fin 8)).trans ((dats T ok m ρ 0 c).arrAt_in (6 : Fin 8) rfl _)⟩) (run_main T ok m ρ hp)

include ok in
/-- THE FRAME at the tables: every fair run ends, faults nothing, leaves every argument as it was and every counter zero. -/
theorem frame (hp : At T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged T ok m ρ hp) ((θ_run defs _ _).mono (fun _ h => h.2) (run_main_quiescent T ok m ρ hp))

end Launch

end Cert.ExpertsIdeal.Exp

end
-- ==== Proof.ExpIdeal.Tables.lean ====
/- What the precondition says of the two tables, and the frame of the experts' launch under it. -/
module

public import proofs.«01_k».proof.Defs
public import proofs.«01_k».proof.Proof.ExpIdeal.Frame
public import proofs.«01_k».proof.Pre_tables_named
public import Idealize.ShloMosaic.Lib.Pipeline.ValueKit

@[expose] public section

set_option maxRecDepth 16384
set_option Elab.async false

noncomputable section

namespace Cert.ExpertsIdeal.Exp

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The precondition says that every named expert is one of the 32 and that at least one block is in use. -/
theorem named_of_pre [Cert.Pre_tables_named.Facts] (a0 : IVec S160 32) (a1 : IVec S1 32) (a2 a3 a4 a5 a6 a7 a8)
    (h : Cert.Pre_tables_named.fn (F := Ideal) a0 a1 a2 a3 a4 a5 a6 a7 a8 = fun _ => 1#1) :
    (∀ x, (a0 x).toNat < 32) ∧ (∀ x, 1 ≤ (a1 x).toInt) := by
  have hp : ∀ k : Fin 161, Cert.Pre_tables_named.fn (F := Ideal) a0 a1 a2 a3 a4 a5 a6 a7 a8 (ix1 k) = 1#1 := fun k => congrFun h _
  constructor
  · intro x
    idx_vars x
    have h1 := hp ⟨x0, by omega⟩
    pointwise [Cert.Pre_tables_named.fn] at h1
    generalize a0 (ix1 x0) = w at *
    have key : ∀ b1 b2 : Bool, IntOp.andi (BitVec.ofBool b1) (BitVec.ofBool b2) = 1#1 → b1 = true ∧ b2 = true := by decide
    obtain ⟨p, q⟩ := key ((0#32 : BitVec 32).sle w) (w.slt 32#32) h1
    rw [BitVec.sle, decide_eq_true_eq] at p
    rw [BitVec.slt, decide_eq_true_eq] at q
    simp only [BitVec.toInt_eq_toNat_cond, BitVec.toNat_ofNat] at p q
    have := w.isLt
    split at p <;> split at q <;> omega
  · intro x
    idx_vars x
    have h1 := hp ⟨160, by omega⟩
    pointwise [Cert.Pre_tables_named.fn] at h1
    have hx : x0 = 0 := Subsingleton.elim _ _
    subst hx
    generalize a1 (ix1 0) = w at *
    have key : ∀ b1 : Bool, BitVec.ofBool b1 = 1#1 → b1 = true := by decide
    have p := key ((1#32 : BitVec 32).sle w) h1
    rw [BitVec.sle, decide_eq_true_eq] at p
    exact p

/-- Tables naming experts and a count of at least one keep every block inside its array. -/
theorem ok_of_named (T : pre0.Contents (Elt Ideal)) (h0 : ∀ x, (tb0 T x).toNat < 32) (h1 : ∀ x, 1 ≤ (tb1 T x).toInt) : ok0 (F := Ideal) T := by
  have hb : ∀ i : grid0.Coords, (beHere i (tb0 T)).toNat < 32 := fun i => h0 _
  have hi : ∀ i : grid0.Coords, (i 0).val < 160 := fun i => (i 0).isLt
  have hn : ∀ i : grid0.Coords, (Scalar.minsi (BitVec.ofNat 32 (i 0).val) (Scalar.subi (nuHere (tb1 T)) 1#32)).toNat < 160 := by
    intro i
    have hw : 1 ≤ (nuHere (tb1 T)).toInt := h1 _
    have hv := hi i
    generalize nuHere (tb1 T) = w at *
    generalize (i 0).val = v at *
    have hw' : w.toNat < 2147483648 ∧ 1 ≤ w.toNat := by
      rw [BitVec.toInt_eq_toNat_cond] at hw; split at hw <;> omega
    have hs : (w - 1#32).toNat = w.toNat - 1 := by
      rw [BitVec.toNat_sub]; simp; omega
    have e : Scalar.minsi (BitVec.ofNat 32 v) (Scalar.subi w 1#32) = if (BitVec.ofNat 32 v).slt (w - 1#32) = true then BitVec.ofNat 32 v else w - 1#32 := rfl
    rw [e]
    by_cases hlt : (BitVec.ofNat 32 v).slt (w - 1#32) = true
    · rw [if_pos hlt]; simp; omega
    · rw [if_neg hlt]
      rw [BitVec.slt, BitVec.toInt_eq_toNat_cond, BitVec.toInt_eq_toNat_cond] at hlt
      simp at hlt
      omega
  refine ⟨fun i => ⟨fun a => ?_, .inl rfl⟩, fun i => ⟨fun a => ?_, .inr (Affine.block_words_dvd (s := S32x2048x1024) (p := EltTy.packing .bf16) (by decide) (by decide))⟩,
    fun i => ⟨fun a => ?_, .inr (Affine.block_words_dvd (s := S32x2048x1024) (p := EltTy.packing .bf16) (by decide) (by decide))⟩, fun i => ⟨fun a => ?_, .inl rfl⟩,
    fun i => ⟨fun a => ?_, .inl rfl⟩, fun i => ⟨fun a => ?_, .inl rfl⟩, fun i => ⟨fun a => ?_, .inl rfl⟩⟩
  · have := hn i
    fin_cases a
    · show (0 + 1) * 2 ≤ 2; omega
    · show ((Scalar.minsi (BitVec.ofNat 32 (i 0).val) (Scalar.subi (nuHere (tb1 T)) 1#32)).toNat + 1) * 2048 ≤ 327680; omega
    · show (0 + 1) * 128 ≤ 128; omega
  · have := hb i
    fin_cases a
    · show ((beHere i (tb0 T)).toNat + 1) * 1 ≤ 32; omega
    · show (0 + 1) * 2048 ≤ 2048; omega
    · show (0 + 1) * 1024 ≤ 1024; omega
  · have := hb i
    fin_cases a
    · show ((beHere i (tb0 T)).toNat + 1) * 1 ≤ 32; omega
    · show (0 + 1) * 2048 ≤ 2048; omega
    · show (0 + 1) * 1024 ≤ 1024; omega
  · have := hb i
    fin_cases a
    · show ((beHere i (tb0 T)).toNat + 1) * 1 ≤ 32; omega
    · show (0 + 1) * 1 ≤ 1; omega
    · show (0 + 1) * 1024 ≤ 1024; omega
  · have := hb i
    fin_cases a
    · show ((beHere i (tb0 T)).toNat + 1) * 1 ≤ 32; omega
    · show (0 + 1) * 1 ≤ 1; omega
    · show (0 + 1) * 1024 ≤ 1024; omega
  · have := hb i
    fin_cases a
    · show (0 + 1) * 1 ≤ 2; omega
    · show ((beHere i (tb0 T)).toNat + 1) * 1 ≤ 32; omega
    · show (0 + 1) * 1024 ≤ 1024; omega
    · show (0 + 1) * 2048 ≤ 2048; omega
  · have := hb i
    fin_cases a
    · show ((beHere i (tb0 T)).toNat + 1) * 1 ≤ 32; omega
    · show (0 + 1) * 1 ≤ 1; omega
    · show (0 + 1) * 2048 ≤ 2048; omega

variable (m : (ℓ : Loc nD τ sig) → Buf (Elt Ideal) ℓ) (ρ : Dev nD → PrngReg)

/-- The one device. -/
abbrev dev0 : Dev nD := ⟨0, by decide⟩

/-- The tables as the memory holds them. -/
def tabs : pre0.Contents (Elt Ideal) := fun
  | ⟨0, _⟩ => m ((dev0 : Thread nD τ).loc main_arg0)
  | ⟨1, _⟩ => m ((dev0 : Thread nD τ).loc main_arg1)
  | ⟨_ + 2, h⟩ => absurd h (by simp)

theorem at_tabs : At (tabs m) m :=
  ⟨fun c => by rw [Subsingleton.elim c dev0]; rfl, fun c => by rw [Subsingleton.elim c dev0]; rfl⟩

theorem tabs_named [Cert.Pre_tables_named.Facts] (h : Cert.Pre_ExpertsIdeal m) :
    (∀ x, (tb0 (tabs m) x).toNat < 32) ∧ (∀ x, 1 ≤ (tb1 (tabs m) x).toInt) :=
  named_of_pre _ _ _ _ _ _ _ _ _ (h dev0)

theorem ok_tabs [Cert.Pre_tables_named.Facts] (h : Cert.Pre_ExpertsIdeal m) : ok0 (F := Ideal) (tabs m) :=
  ok_of_named _ (tabs_named m h).1 (tabs_named m h).2

/-- THE FRAME of the experts' launch under the precondition. -/
theorem frame_of_pre [Cert.Pre_tables_named.Facts] (h : Cert.Pre_ExpertsIdeal m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  frame (tabs m) (ok_tabs m h) m ρ (at_tabs m)

end Cert.ExpertsIdeal.Exp

end
-- ==== Proof.ExpIdeal.Point.lean ====
/- The experts' body at an index: the stores of a block in use, each as an entry of the expert's answer. -/
module

public import proofs.«01_k».proof.Proof.ExpIdeal.Frame
public import Idealize.ShloMosaic.Lib.Pipeline.ValueKit

@[expose] public section

set_option maxRecDepth 16384

noncomputable section

namespace Cert.ExpertsIdeal.Exp

open Idealize.ShloMosaic Idealize.ShloMosaic.TcCoe Idealize.SL.Sem
open Cert.ExpertsIdeal Cert.ExpertsIdeal.Gen

/-- Entry `e` of row `r` of a block of rows, which holds the row in two planes of eight groups of lanes. -/
def rowAt (x0 : S2x2048x128.Idx → EReal) (r : Fin 256) (e : Fin 2048) : EReal :=
  x0 (ix3 ⟨e / 1024, by omega⟩ ⟨r * 8 + e % 1024 / 128, by omega⟩ ⟨e % 128, by omega⟩)

/-- The gate of an expert at row `r` and column `d`, clipped from above; -/
def gateAt (X : Fin 2048 → EReal) (W : Fin 2048 → EReal) (b : EReal) : EReal :=
  min ((∑ e : Fin 2048, X e * W e) + b) (Ideal.ofBits .f32 0x40E00000#32)

/-- its linear half, clipped from below. -/
def linAt (X : Fin 2048 → EReal) (W : Fin 2048 → EReal) (b : EReal) : EReal :=
  max (Ideal.ofBits .f32 0xC0E00000#32) ((∑ e : Fin 2048, X e * W e) + b)

/-- The activation: the gate through its swish, times the linear half clipped from above and raised by one. -/
def actAt (g l : EReal) : EReal :=
  g * Ideal.logistic (Ideal.ofBits .f32 0x3FD9DB23#32 * g) * (min (Ideal.ofBits .f32 0x40E00000#32) l + 1)

/-- The second product's result from the clipped gate, the clipped linear half, the weights and the bias. -/
theorem pay16_at (g l : FVec Ideal S256x1024 .f32) (sc : S1024x2048.Idx → Elt Ideal .bf16) (x6 : S1x1x2048.Idx → Elt Ideal .f32)
    (r : Fin 256) (f : Fin 2048) :
    k0_pay16 g l k0_pay15 sc x6 (ix2 r f)
      = (∑ d : Fin 1024, actAt (g (ix2 r d)) (l (ix2 r d)) * sc (ix2 d f)) + x6 (ix3 0 0 f) := by
  unfold actAt
  pointwise [k0_pay16, k0_pay15]

/-- A box of a block of rows at an index. -/
theorem box_at (x0 : S2x2048x128.Idx → Elt Ideal .f32) (h j : ℕ) (hh : h < 2) (hj : j < 8)
    (inb : ∀ a, S1x256x128.size a = 0 ∨ (![h, j, 0] : Fin 3 → Nat) a + (![1, 8, 1] : Fin 3 → Nat) a * (S1x256x128.size a - 1) < S2x2048x128.size a) (r : Fin 256) (l : Fin 128) :
    ln x0 ⟨![h, j, 0], S1x256x128.size, ![1, 8, 1], inb⟩ (ix3 0 r l) = x0 (ix3 ⟨h, hh⟩ ⟨r * 8 + j, by omega⟩ l) := by
  refine congrArg x0 (funext fun a => Fin.ext ?_)
  match a with
  | ⟨0, _⟩ => show h + 1 * 0 = h; omega
  | ⟨1, _⟩ => show j + 8 * r.val = r.val * 8 + j; omega
  | ⟨2, _⟩ => show 0 + 1 * l.val = l.val; omega

/-- Eight groups of 128 lanes side by side, read at a lane. -/
theorem pay8_at (a0 a1 a2 a3 a4 a5 a6 a7 : S1x256x128.Idx → Elt Ideal .f32) (X : Fin 1024 → EReal) (r : Fin 256)
    (h0 : ∀ l : Fin 128, a0 (ix3 0 r l) = X ⟨0 + l, by omega⟩)
    (h1 : ∀ l : Fin 128, a1 (ix3 0 r l) = X ⟨128 + l, by omega⟩)
    (h2 : ∀ l : Fin 128, a2 (ix3 0 r l) = X ⟨256 + l, by omega⟩)
    (h3 : ∀ l : Fin 128, a3 (ix3 0 r l) = X ⟨384 + l, by omega⟩)
    (h4 : ∀ l : Fin 128, a4 (ix3 0 r l) = X ⟨512 + l, by omega⟩)
    (h5 : ∀ l : Fin 128, a5 (ix3 0 r l) = X ⟨640 + l, by omega⟩)
    (h6 : ∀ l : Fin 128, a6 (ix3 0 r l) = X ⟨768 + l, by omega⟩)
    (h7 : ∀ l : Fin 128, a7 (ix3 0 r l) = X ⟨896 + l, by omega⟩) (e : Fin 1024) :
    k0_pay8 (F := Ideal) a0 a1 a2 a3 a4 a5 a6 a7 (ix2 r e) = X e := by
  pointwise [k0_pay8]
  split_ifs
  all_goals first
    | exact (h0 _).trans (congrArg X (Fin.ext (by dsimp only; omega)))
    | exact (h1 _).trans (congrArg X (Fin.ext (by dsimp only; omega)))
    | exact (h2 _).trans (congrArg X (Fin.ext (by dsimp only; omega)))
    | exact (h3 _).trans (congrArg X (Fin.ext (by dsimp only; omega)))
    | exact (h4 _).trans (congrArg X (Fin.ext (by dsimp only; omega)))
    | exact (h5 _).trans (congrArg X (Fin.ext (by dsimp only; omega)))
    | exact (h6 _).trans (congrArg X (Fin.ext (by dsimp only; omega)))
    | exact (h7 _).trans (congrArg X (Fin.ext (by dsimp only; omega)))

/-- The rows as the first products take them: both planes' groups of lanes side by side. -/
theorem pay12_at (P : FVec Ideal S256x1024 .f32) (a0 a1 a2 a3 a4 a5 a6 a7 : S1x256x128.Idx → Elt Ideal .f32) (X : Fin 2048 → EReal) (r : Fin 256)
    (hP : ∀ e : Fin 1024, P (ix2 r e) = X ⟨e, by omega⟩)
    (h0 : ∀ l : Fin 128, a0 (ix3 0 r l) = X ⟨1024 + l, by omega⟩)
    (h1 : ∀ l : Fin 128, a1 (ix3 0 r l) = X ⟨1152 + l, by omega⟩)
    (h2 : ∀ l : Fin 128, a2 (ix3 0 r l) = X ⟨1280 + l, by omega⟩)
    (h3 : ∀ l : Fin 128, a3 (ix3 0 r l) = X ⟨1408 + l, by omega⟩)
    (h4 : ∀ l : Fin 128, a4 (ix3 0 r l) = X ⟨1536 + l, by omega⟩)
    (h5 : ∀ l : Fin 128, a5 (ix3 0 r l) = X ⟨1664 + l, by omega⟩)
    (h6 : ∀ l : Fin 128, a6 (ix3 0 r l) = X ⟨1792 + l, by omega⟩)
    (h7 : ∀ l : Fin 128, a7 (ix3 0 r l) = X ⟨1920 + l, by omega⟩) (e : Fin 2048) :
    k0_pay12 (F := Ideal) P (k0_pay9 a0) (k0_pay10 a1) (k0_pay11 a2) a3 a4 a5 a6 a7 (ix2 r e) = X e := by
  pointwise [k0_pay12, k0_pay9, k0_pay10, k0_pay11]
  split_ifs
  all_goals first
    | exact hP _
    | exact (h0 _).trans (congrArg X (Fin.ext (by dsimp only; omega)))
    | exact (h1 _).trans (congrArg X (Fin.ext (by dsimp only; omega)))
    | exact (h2 _).trans (congrArg X (Fin.ext (by dsimp only; omega)))
    | exact (h3 _).trans (congrArg X (Fin.ext (by dsimp only; omega)))
    | exact (h4 _).trans (congrArg X (Fin.ext (by dsimp only; omega)))
    | exact (h5 _).trans (congrArg X (Fin.ext (by dsimp only; omega)))
    | exact (h6 _).trans (congrArg X (Fin.ext (by dsimp only; omega)))
    | exact (h7 _).trans (congrArg X (Fin.ext (by dsimp only; omega)))
    | exact absurd rfl (by assumption)

/-- The rows of a block as the first products take them. -/
theorem rows_at (x0 : S2x2048x128.Idx → Elt Ideal .f32) (r : Fin 256) (e : Fin 2048) :
    k0_pay12 (F := Ideal) (k0_pay8 (ln x0 ⟨![0, 0, 0], S1x256x128.size, ![1, 8, 1], inb_S2x2048x128_S1x256x128_0_0_0_s_1_8_1⟩) (ln x0 ⟨![0, 1, 0], S1x256x128.size, ![1, 8, 1], inb_S2x2048x128_S1x256x128_0_1_0_s_1_8_1⟩) (ln x0 ⟨![0, 2, 0], S1x256x128.size, ![1, 8, 1], inb_S2x2048x128_S1x256x128_0_2_0_s_1_8_1⟩) (ln x0 ⟨![0, 3, 0], S1x256x128.size, ![1, 8, 1], inb_S2x2048x128_S1x256x128_0_3_0_s_1_8_1⟩) (ln x0 ⟨![0, 4, 0], S1x256x128.size, ![1, 8, 1], inb_S2x2048x128_S1x256x128_0_4_0_s_1_8_1⟩) (ln x0 ⟨![0, 5, 0], S1x256x128.size, ![1, 8, 1], inb_S2x2048x128_S1x256x128_0_5_0_s_1_8_1⟩) (ln x0 ⟨![0, 6, 0], S1x256x128.size, ![1, 8, 1], inb_S2x2048x128_S1x256x128_0_6_0_s_1_8_1⟩) (ln x0 ⟨![0, 7, 0], S1x256x128.size, ![1, 8, 1], inb_S2x2048x128_S1x256x128_0_7_0_s_1_8_1⟩)) (k0_pay9 (ln x0 ⟨![1, 0, 0], S1x256x128.size, ![1, 8, 1], inb_S2x2048x128_S1x256x128_1_0_0_s_1_8_1⟩)) (k0_pay10 (ln x0 ⟨![1, 1, 0], S1x256x128.size, ![1, 8, 1], inb_S2x2048x128_S1x256x128_1_1_0_s_1_8_1⟩)) (k0_pay11 (ln x0 ⟨![1, 2, 0], S1x256x128.size, ![1, 8, 1], inb_S2x2048x128_S1x256x128_1_2_0_s_1_8_1⟩)) (ln x0 ⟨![1, 3, 0], S1x256x128.size, ![1, 8, 1], inb_S2x2048x128_S1x256x128_1_3_0_s_1_8_1⟩) (ln x0 ⟨![1, 4, 0], S1x256x128.size, ![1, 8, 1], inb_S2x2048x128_S1x256x128_1_4_0_s_1_8_1⟩) (ln x0 ⟨![1, 5, 0], S1x256x128.size, ![1, 8, 1], inb_S2x2048x128_S1x256x128_1_5_0_s_1_8_1⟩) (ln x0 ⟨![1, 6, 0], S1x256x128.size, ![1, 8, 1], inb_S2x2048x128_S1x256x128_1_6_0_s_1_8_1⟩) (ln x0 ⟨![1, 7, 0], S1x256x128.size, ![1, 8, 1], inb_S2x2048x128_S1x256x128_1_7_0_s_1_8_1⟩) (ix2 r e) = rowAt x0 r e := by
  have hb : ∀ (h j : ℕ) (hh : h < 2) (hj : j < 8) (inb : ∀ a, S1x256x128.size a = 0 ∨ (![h, j, 0] : Fin 3 → Nat) a + (![1, 8, 1] : Fin 3 → Nat) a * (S1x256x128.size a - 1) < S2x2048x128.size a) (l : Fin 128)
      (k : Fin 2048), k.val = h * 1024 + j * 128 + l →
      ln x0 ⟨![h, j, 0], S1x256x128.size, ![1, 8, 1], inb⟩ (ix3 0 r l) = rowAt x0 r k := by
    intro h j hh hj inb l k hk
    rw [box_at x0 h j hh hj]
    unfold rowAt
    congr 1
    congr 1 <;> refine Fin.ext ?_ <;> dsimp only <;> omega
  refine pay12_at _ _ _ _ _ _ _ _ _ (rowAt x0 r) r (fun e => pay8_at _ _ _ _ _ _ _ _ (fun e => rowAt x0 r ⟨e, by omega⟩) r ?_ ?_ ?_ ?_ ?_ ?_ ?_ ?_ e) ?_ ?_ ?_ ?_ ?_ ?_ ?_ ?_ e
  · exact fun l => hb 0 0 (by omega) (by omega) _ l _ (by first | rfl | (dsimp only; omega))
  · exact fun l => hb 0 1 (by omega) (by omega) _ l _ (by first | rfl | (dsimp only; omega))
  · exact fun l => hb 0 2 (by omega) (by omega) _ l _ (by first | rfl | (dsimp only; omega))
  · exact fun l => hb 0 3 (by omega) (by omega) _ l _ (by first | rfl | (dsimp only; omega))
  · exact fun l => hb 0 4 (by omega) (by omega) _ l _ (by first | rfl | (dsimp only; omega))
  · exact fun l => hb 0 5 (by omega) (by omega) _ l _ (by first | rfl | (dsimp only; omega))
  · exact fun l => hb 0 6 (by omega) (by omega) _ l _ (by first | rfl | (dsimp only; omega))
  · exact fun l => hb 0 7 (by omega) (by omega) _ l _ (by first | rfl | (dsimp only; omega))
  · exact fun l => hb 1 0 (by omega) (by omega) _ l _ (by first | rfl | (dsimp only; omega))
  · exact fun l => hb 1 1 (by omega) (by omega) _ l _ (by first | rfl | (dsimp only; omega))
  · exact fun l => hb 1 2 (by omega) (by omega) _ l _ (by first | rfl | (dsimp only; omega))
  · exact fun l => hb 1 3 (by omega) (by omega) _ l _ (by first | rfl | (dsimp only; omega))
  · exact fun l => hb 1 4 (by omega) (by omega) _ l _ (by first | rfl | (dsimp only; omega))
  · exact fun l => hb 1 5 (by omega) (by omega) _ l _ (by first | rfl | (dsimp only; omega))
  · exact fun l => hb 1 6 (by omega) (by omega) _ l _ (by first | rfl | (dsimp only; omega))
  · exact fun l => hb 1 7 (by omega) (by omega) _ l _ (by first | rfl | (dsimp only; omega))

/-- The clipped gate of a block at an index; -/
theorem gate_at (x0 : S2x2048x128.Idx → Elt Ideal .f32) (w : S1x2048x1024.Idx → Elt Ideal .bf16) (b : S1x1x1024.Idx → Elt Ideal .f32)
    (r : Fin 256) (d : Fin 1024) :
    gate (ln x0) w b (ix2 r d) = gateAt (rowAt x0 r) (fun e => w (ix3 0 e d)) (b (ix3 0 0 d)) := by
  unfold gate gateAt
  simp_rw [← rows_at x0 r]
  pointwise [k0_pay13]

/-- and the clipped linear half. -/
theorem lin_at (x0 : S2x2048x128.Idx → Elt Ideal .f32) (w : S1x2048x1024.Idx → Elt Ideal .bf16) (b : S1x1x1024.Idx → Elt Ideal .f32)
    (r : Fin 256) (d : Fin 1024) :
    lin (ln x0) w b (ix2 r d) = linAt (rowAt x0 r) (fun e => w (ix3 0 e d)) (b (ix3 0 0 d)) := by
  unfold lin linAt
  simp_rw [← rows_at x0 r]
  pointwise [k0_pay14]

/-- One store of a block in use: group `j` of lanes of plane `h`. -/
theorem piece_at (Y : FVec Ideal S256x2048 .f32) (w : FVec Ideal S1x256x128 .f32) (h j : ℕ) (hh : h < 2) (hj : j < 8)
    (inb : ∀ a, S1x256x128.size a = 0 ∨ (![h, j, 0] : Fin 3 → Nat) a + (![1, 8, 1] : Fin 3 → Nat) a * (S1x256x128.size a - 1) < S2x2048x128.size a)
    (hw : ∀ (r : Fin 256) (f : Fin 128), w (ix3 0 r f) = Y (ix2 r ⟨h * 1024 + j * 128 + f, by omega⟩))
    (y0 : Fin 2) (y1 : Fin 2048) (y2 : Fin 128) :
    View.RectAt (Val := Elt Ideal) (S := S2x2048x128) (e := .f32) (ix3 y0 y1 y2)
      ⟨⟨![h, j, 0], S1x256x128.size, ![1, 8, 1], inb⟩, spos_1_8_1⟩ w
      (Y (ix2 ⟨y1 / 8, by omega⟩ ⟨y0 * 1024 + y1 % 8 * 128 + y2, by omega⟩)) := by
  intro x hx
  idx_vars x
  have e0 : h + 1 * x0.val = y0.val := congrArg (fun i : S2x2048x128.Idx => (i 0).val) hx
  have e1 : j + 8 * x1.val = y1.val := congrArg (fun i : S2x2048x128.Idx => (i 1).val) hx
  have e2 : 0 + 1 * x2.val = y2.val := congrArg (fun i : S2x2048x128.Idx => (i 2).val) hx
  obtain rfl : x0 = 0 := Subsingleton.elim _ _
  refine (hw x1 x2).trans (congrArg Y ?_)
  congr 1 <;> refine Fin.ext ?_ <;> dsimp only <;> omega

/-- What a block in use holds after its stores: at row `y1 / 8` and column `y0 * 1024 + y1 % 8 * 128 + y2` of the answer. -/
theorem yps_at (x0 : S2x2048x128.Idx → Elt Ideal .f32) (x1 x2 : S1x2048x1024.Idx → Elt Ideal .bf16) (x3 x4 : S1x1x1024.Idx → Elt Ideal .f32)
    (sc : S1024x2048.Idx → Elt Ideal .bf16) (x6 : S1x1x2048.Idx → Elt Ideal .f32) (y0 : Fin 2) (y1 : Fin 2048) (y2 : Fin 128) :
    View.canon (yps (ln x0) x1 x2 x3 x4 sc x6) (ix3 y0 y1 y2)
      = k0_pay16 (gate (ln x0) x1 x3) (lin (ln x0) x2 x4) k0_pay15 sc x6
          (ix2 ⟨y1 / 8, by omega⟩ ⟨y0 * 1024 + y1 % 8 * 128 + y2, by omega⟩) := by
  refine View.canon_eq_of_allAt _ _ _ (yps_cover _ _ _ _ _ _ _ _) ?_
  unfold yps k0_pay17 k0_pay18 k0_pay19 k0_pay20 k0_pay21 k0_pay22 k0_pay17
  generalize k0_pay16 (gate (ln x0) x1 x3) (lin (ln x0) x2 x4) k0_pay15 sc x6 = Y
  refine View.allAt_cons _ _ _ ?_ ?_
  · refine piece_at Y _ 1 7 (by omega) (by omega) _ (fun r f => ?_) y0 y1 y2
    pointwise [k0_pay6, k0_pay5, k0_pay4, k0_pay3, k0_pay2, k0_pay31, k0_pay30, k0_pay29, k0_pay28, k0_pay27, k0_pay26, k0_pay25, k0_pay24, k0_pay23]
    try exact congrArg Y (congrArg (ix2 r) (Fin.ext (by dsimp only; omega)))
  refine View.allAt_cons _ _ _ ?_ ?_
  · refine piece_at Y _ 1 6 (by omega) (by omega) _ (fun r f => ?_) y0 y1 y2
    pointwise [k0_pay6, k0_pay5, k0_pay4, k0_pay3, k0_pay2, k0_pay31, k0_pay30, k0_pay29, k0_pay28, k0_pay27, k0_pay26, k0_pay25, k0_pay24, k0_pay23]
    try exact congrArg Y (congrArg (ix2 r) (Fin.ext (by dsimp only; omega)))
  refine View.allAt_cons _ _ _ ?_ ?_
  · refine piece_at Y _ 1 5 (by omega) (by omega) _ (fun r f => ?_) y0 y1 y2
    pointwise [k0_pay6, k0_pay5, k0_pay4, k0_pay3, k0_pay2, k0_pay31, k0_pay30, k0_pay29, k0_pay28, k0_pay27, k0_pay26, k0_pay25, k0_pay24, k0_pay23]
    try exact congrArg Y (congrArg (ix2 r) (Fin.ext (by dsimp only; omega)))
  refine View.allAt_cons _ _ _ ?_ ?_
  · refine piece_at Y _ 1 4 (by omega) (by omega) _ (fun r f => ?_) y0 y1 y2
    pointwise [k0_pay6, k0_pay5, k0_pay4, k0_pay3, k0_pay2, k0_pay31, k0_pay30, k0_pay29, k0_pay28, k0_pay27, k0_pay26, k0_pay25, k0_pay24, k0_pay23]
    try exact congrArg Y (congrArg (ix2 r) (Fin.ext (by dsimp only; omega)))
  refine View.allAt_cons _ _ _ ?_ ?_
  · refine piece_at Y _ 1 3 (by omega) (by omega) _ (fun r f => ?_) y0 y1 y2
    pointwise [k0_pay6, k0_pay5, k0_pay4, k0_pay3, k0_pay2, k0_pay31, k0_pay30, k0_pay29, k0_pay28, k0_pay27, k0_pay26, k0_pay25, k0_pay24, k0_pay23]
    try exact congrArg Y (congrArg (ix2 r) (Fin.ext (by dsimp only; omega)))
  refine View.allAt_cons _ _ _ ?_ ?_
  · refine piece_at Y _ 1 2 (by omega) (by omega) _ (fun r f => ?_) y0 y1 y2
    pointwise [k0_pay6, k0_pay5, k0_pay4, k0_pay3, k0_pay2, k0_pay31, k0_pay30, k0_pay29, k0_pay28, k0_pay27, k0_pay26, k0_pay25, k0_pay24, k0_pay23]
    try exact congrArg Y (congrArg (ix2 r) (Fin.ext (by dsimp only; omega)))
  refine View.allAt_cons _ _ _ ?_ ?_
  · refine piece_at Y _ 1 1 (by omega) (by omega) _ (fun r f => ?_) y0 y1 y2
    pointwise [k0_pay6, k0_pay5, k0_pay4, k0_pay3, k0_pay2, k0_pay31, k0_pay30, k0_pay29, k0_pay28, k0_pay27, k0_pay26, k0_pay25, k0_pay24, k0_pay23]
    try exact congrArg Y (congrArg (ix2 r) (Fin.ext (by dsimp only; omega)))
  refine View.allAt_cons _ _ _ ?_ ?_
  · refine piece_at Y _ 1 0 (by omega) (by omega) _ (fun r f => ?_) y0 y1 y2
    pointwise [k0_pay6, k0_pay5, k0_pay4, k0_pay3, k0_pay2, k0_pay31, k0_pay30, k0_pay29, k0_pay28, k0_pay27, k0_pay26, k0_pay25, k0_pay24, k0_pay23]
    try exact congrArg Y (congrArg (ix2 r) (Fin.ext (by dsimp only; omega)))
  refine View.allAt_cons _ _ _ ?_ ?_
  · refine piece_at Y _ 0 7 (by omega) (by omega) _ (fun r f => ?_) y0 y1 y2
    pointwise [k0_pay6, k0_pay5, k0_pay4, k0_pay3, k0_pay2, k0_pay31, k0_pay30, k0_pay29, k0_pay28, k0_pay27, k0_pay26, k0_pay25, k0_pay24, k0_pay23]
    try exact congrArg Y (congrArg (ix2 r) (Fin.ext (by dsimp only; omega)))
  refine View.allAt_cons _ _ _ ?_ ?_
  · refine piece_at Y _ 0 6 (by omega) (by omega) _ (fun r f => ?_) y0 y1 y2
    pointwise [k0_pay6, k0_pay5, k0_pay4, k0_pay3, k0_pay2, k0_pay31, k0_pay30, k0_pay29, k0_pay28, k0_pay27, k0_pay26, k0_pay25, k0_pay24, k0_pay23]
    try exact congrArg Y (congrArg (ix2 r) (Fin.ext (by dsimp only; omega)))
  refine View.allAt_cons _ _ _ ?_ ?_
  · refine piece_at Y _ 0 5 (by omega) (by omega) _ (fun r f => ?_) y0 y1 y2
    pointwise [k0_pay6, k0_pay5, k0_pay4, k0_pay3, k0_pay2, k0_pay31, k0_pay30, k0_pay29, k0_pay28, k0_pay27, k0_pay26, k0_pay25, k0_pay24, k0_pay23]
    try exact congrArg Y (congrArg (ix2 r) (Fin.ext (by dsimp only; omega)))
  refine View.allAt_cons _ _ _ ?_ ?_
  · refine piece_at Y _ 0 4 (by omega) (by omega) _ (fun r f => ?_) y0 y1 y2
    pointwise [k0_pay6, k0_pay5, k0_pay4, k0_pay3, k0_pay2, k0_pay31, k0_pay30, k0_pay29, k0_pay28, k0_pay27, k0_pay26, k0_pay25, k0_pay24, k0_pay23]
    try exact congrArg Y (congrArg (ix2 r) (Fin.ext (by dsimp only; omega)))
  refine View.allAt_cons _ _ _ ?_ ?_
  · refine piece_at Y _ 0 3 (by omega) (by omega) _ (fun r f => ?_) y0 y1 y2
    pointwise [k0_pay6, k0_pay5, k0_pay4, k0_pay3, k0_pay2, k0_pay31, k0_pay30, k0_pay29, k0_pay28, k0_pay27, k0_pay26, k0_pay25, k0_pay24, k0_pay23]
    try exact congrArg Y (congrArg (ix2 r) (Fin.ext (by dsimp only; omega)))
  refine View.allAt_cons _ _ _ ?_ ?_
  · refine piece_at Y _ 0 2 (by omega) (by omega) _ (fun r f => ?_) y0 y1 y2
    pointwise [k0_pay6, k0_pay5, k0_pay4, k0_pay3, k0_pay2, k0_pay31, k0_pay30, k0_pay29, k0_pay28, k0_pay27, k0_pay26, k0_pay25, k0_pay24, k0_pay23]
    try exact congrArg Y (congrArg (ix2 r) (Fin.ext (by dsimp only; omega)))
  refine View.allAt_cons _ _ _ ?_ ?_
  · refine piece_at Y _ 0 1 (by omega) (by omega) _ (fun r f => ?_) y0 y1 y2
    pointwise [k0_pay6, k0_pay5, k0_pay4, k0_pay3, k0_pay2, k0_pay31, k0_pay30, k0_pay29, k0_pay28, k0_pay27, k0_pay26, k0_pay25, k0_pay24, k0_pay23]
    try exact congrArg Y (congrArg (ix2 r) (Fin.ext (by dsimp only; omega)))
  refine View.allAt_cons _ _ _ ?_ ?_
  · refine piece_at Y _ 0 0 (by omega) (by omega) _ (fun r f => ?_) y0 y1 y2
    pointwise [k0_pay6, k0_pay5, k0_pay4, k0_pay3, k0_pay2, k0_pay31, k0_pay30, k0_pay29, k0_pay28, k0_pay27, k0_pay26, k0_pay25, k0_pay24, k0_pay23]
    try exact congrArg Y (congrArg (ix2 r) (Fin.ext (by dsimp only; omega)))
  exact View.allAt_nil _ _

/-- The answer of an expert for a row: from the row, its weights and its biases. -/
def answer (X : Fin 2048 → EReal) (Wg Wl : Fin 2048 → Fin 1024 → EReal) (bg bl : Fin 1024 → EReal) (W : Fin 1024 → EReal) (b : EReal) : EReal :=
  (∑ d : Fin 1024, actAt (gateAt X (fun e => Wg e d) (bg d)) (linAt X (fun e => Wl e d) (bl d)) * W d) + b

/-- The output block at an index: the answer of the block's expert where the block is in use, zero where it is not. -/
theorem bps_at (i : grid0.Coords) (T1 : S1.Idx → Elt Ideal .i32) (x0 : S2x2048x128.Idx → Elt Ideal .f32) (x1 x2 : S1x2048x1024.Idx → Elt Ideal .bf16)
    (x3 x4 : S1x1x1024.Idx → Elt Ideal .f32) (x5 : S1x1x1024x2048.Idx → Elt Ideal .f32) (x6 : S1x1x2048.Idx → Elt Ideal .f32)
    (y0 : Fin 2) (y1 : Fin 2048) (y2 : Fin 128) :
    View.canon (bps i T1 x0 x1 x2 x3 x4 x5 x6) (ix3 y0 y1 y2)
      = if Used i T1 then
          answer (rowAt x0 ⟨y1 / 8, by omega⟩) (fun e d => x1 (ix3 0 e d)) (fun e d => x2 (ix3 0 e d))
            (fun d => x3 (ix3 0 0 d)) (fun d => x4 (ix3 0 0 d))
            (fun d => x5 (ix4 0 0 d ⟨y0 * 1024 + y1 % 8 * 128 + y2, by omega⟩))
            (x6 (ix3 0 0 ⟨y0 * 1024 + y1 % 8 * 128 + y2, by omega⟩))
        else 0 := by
  have hz : View.canon zps (ix3 y0 y1 y2) = (0 : EReal) := by
    have h := View.canon_eq_of_allAt zps (ix3 y0 y1 y2) (0 : EReal) ?_ ?_
    · exact h
    · refine ⟨_, .head _, (Rect.mem_set_unit (s := S2x2048x128) (inb := inb_S2x2048x128_S2x2048x128_0_0_0)).mpr fun a => ?_⟩
      have h := (ix3 y0 y1 y2 a).isLt
      fin_cases a <;> exact ⟨Nat.zero_le _, by simpa using h⟩
    · refine View.allAt_cons _ _ _ (fun x _ => ?_) (View.allAt_nil _ _)
      pointwise [k0_pay7]
  unfold bps
  split_ifs with hu
  · rw [yps_at, pay16_at]
    unfold answer
    simp_rw [gate_at, lin_at]
    have h5 : ∀ (d : Fin 1024) (f : Fin 2048), k0_pay1 (F := Ideal) x5 (ix2 d f) = x5 (ix4 0 0 d f) := by
      intro d f; pointwise [k0_pay1]
    simp_rw [h5]
  · exact hz

end Cert.ExpertsIdeal.Exp

end
-- ==== Proof.ExpIdeal.Array.lean ====
/- The experts' result array: every entry is the answer of its block's expert, or zero past the blocks in use. -/
module

public import proofs.«01_k».proof.Proof.ExpIdeal.Point
public import proofs.«01_k».proof.Proof.ExpIdeal.Tables

@[expose] public section

set_option maxRecDepth 16384

noncomputable section

namespace Cert.ExpertsIdeal.Exp

open Idealize.ShloMosaic Idealize.ShloMosaic.TcCoe Idealize.SL.Sem
open Idealize.ShloMosaic.Pipeline (Dat)
open Cert.ExpertsIdeal Cert.ExpertsIdeal.Gen

/-- The expert a block names. -/
def expert (be : S160.Idx → BitVec 32) (n : Fin 160) : Fin 32 := ⟨min (be (ix1 n)).toNat 31, by omega⟩

/-- Entry `e` of row `r` of block `n`, from the rows' array. -/
def rowOf (xs : S2x327680x128.Idx → EReal) (n : Fin 160) (r : Fin 256) (e : Fin 2048) : EReal :=
  xs (ix3 ⟨e / 1024, by omega⟩ ⟨n * 2048 + (r * 8 + e % 1024 / 128), by omega⟩ ⟨e % 128, by omega⟩)

/-- The experts' result over whole arrays, by block, row and column. -/
def EXP (be : S160.Idx → BitVec 32) (nu : S1.Idx → BitVec 32) (xs : S2x327680x128.Idx → EReal) (wg wl : S32x2048x1024.Idx → EReal)
    (bg bl : S32x1x1024.Idx → EReal) (w2 : S2x32x1024x2048.Idx → EReal) (b2 : S32x1x2048.Idx → EReal) (n : Fin 160) (r : Fin 256) (f : Fin 2048) : EReal :=
  if (BitVec.ofNat 32 n).slt (nu (ix1 0)) = true then
    answer (rowOf xs n r) (fun e d => wg (ix3 (expert be n) e d)) (fun e d => wl (ix3 (expert be n) e d))
      (fun d => bg (ix3 (expert be n) 0 d)) (fun d => bl (ix3 (expert be n) 0 d))
      (fun d => w2 (ix4 0 (expert be n) d f)) (b2 (ix3 (expert be n) 0 f))
  else 0

/-- Being in use is the comparison of the block's number with the count. -/
theorem used_iff (i : grid0.Coords) (T1 : S1.Idx → Elt Ideal .i32) :
    Used i T1 ↔ (BitVec.ofNat 32 (i 0).val).slt (T1 (ix1 0)) = true := by
  have e : nuHere T1 = T1 (ix1 0) := congrArg T1 (funext fun a => Fin.ext (by match a with | ⟨0, _⟩ => rfl))
  have key : ∀ b : Bool, Scalar.cmpi .ne (Scalar.extui (BitVec.ofBool b) : BitVec 32) 0#32 = 1#1 ↔ b = true := by decide
  rw [← e]
  exact key _

variable (T : pre0.Contents (Elt Ideal)) (ok : ok0 (F := Ideal) T)
variable (m : (ℓ : Loc nD τ sig) → Buf (Elt Ideal) ℓ) (ρ : Dev nD → PrngReg)

/-- The expert of a point's block is the table's entry of that number. -/
theorem beHere_at (t : Fin (cfgA T ok).N) (n : Fin 160) (hn : n.val = t.val) : beHere (crd T ok t) (tb0 T) = tb0 T (ix1 n) := by
  refine congrArg (tb0 T) (funext fun a => Fin.ext ?_)
  have hv : (crd T ok t 0).val = t.val := crd_val t
  match a with
  | ⟨0, _⟩ =>
    show (BitVec.ofNat 32 (crd T ok t 0).val).toNat + 1 * 0 = n.val
    rw [hv, BitVec.toNat_ofNat]; omega

/-- Window 1's block at a point, entry by entry. -/
theorem w1_at (c : Dev nD) (t : Fin (cfgA T ok).N) (n : Fin 160) (hn : n.val = t.val) (h0 : ∀ x, (tb0 T x).toNat < 32) (e : Fin 2048) (d : Fin 1024) :
    (iblk T ok m ρ c (1 : Fin 8) t : S1x2048x1024.Idx → EReal) (ix3 0 e d)
      = (m ((c : Thread nD τ).loc main_arg3) : S32x2048x1024.Idx → EReal) (ix3 (expert (tb0 T) n) e d) := by
  have hb := beHere_at T ok t n hn
  have hx := h0 (ix1 n)
  refine congrArg (m ((c : Thread nD τ).loc main_arg3) : S32x2048x1024.Idx → EReal) (funext fun a => Fin.ext ?_)
  match a with
  | ⟨0, _⟩ => show (beHere (crd T ok t) (tb0 T)).toNat * 1 + 1 * 0 = min (tb0 T (ix1 n)).toNat 31; rw [hb]; omega
  | ⟨1, _⟩ => show 0 * 2048 + 1 * e.val = e.val; omega
  | ⟨2, _⟩ => show 0 * 1024 + 1 * d.val = d.val; omega

/-- Window 2's block at a point, entry by entry. -/
theorem w2_at (c : Dev nD) (t : Fin (cfgA T ok).N) (n : Fin 160) (hn : n.val = t.val) (h0 : ∀ x, (tb0 T x).toNat < 32) (e : Fin 2048) (d : Fin 1024) :
    (iblk T ok m ρ c (2 : Fin 8) t : S1x2048x1024.Idx → EReal) (ix3 0 e d)
      = (m ((c : Thread nD τ).loc main_arg4) : S32x2048x1024.Idx → EReal) (ix3 (expert (tb0 T) n) e d) := by
  have hb := beHere_at T ok t n hn
  have hx := h0 (ix1 n)
  refine congrArg (m ((c : Thread nD τ).loc main_arg4) : S32x2048x1024.Idx → EReal) (funext fun a => Fin.ext ?_)
  match a with
  | ⟨0, _⟩ => show (beHere (crd T ok t) (tb0 T)).toNat * 1 + 1 * 0 = min (tb0 T (ix1 n)).toNat 31; rw [hb]; omega
  | ⟨1, _⟩ => show 0 * 2048 + 1 * e.val = e.val; omega
  | ⟨2, _⟩ => show 0 * 1024 + 1 * d.val = d.val; omega

/-- Window 3's block at a point, entry by entry. -/
theorem w3_at (c : Dev nD) (t : Fin (cfgA T ok).N) (n : Fin 160) (hn : n.val = t.val) (h0 : ∀ x, (tb0 T x).toNat < 32) (d : Fin 1024) :
    (iblk T ok m ρ c (3 : Fin 8) t : S1x1x1024.Idx → EReal) (ix3 0 0 d)
      = (m ((c : Thread nD τ).loc main_arg5) : S32x1x1024.Idx → EReal) (ix3 (expert (tb0 T) n) 0 d) := by
  have hb := beHere_at T ok t n hn
  have hx := h0 (ix1 n)
  refine congrArg (m ((c : Thread nD τ).loc main_arg5) : S32x1x1024.Idx → EReal) (funext fun a => Fin.ext ?_)
  match a with
  | ⟨0, _⟩ => show (beHere (crd T ok t) (tb0 T)).toNat * 1 + 1 * 0 = min (tb0 T (ix1 n)).toNat 31; rw [hb]; omega
  | ⟨1, _⟩ => rfl
  | ⟨2, _⟩ => show 0 * 1024 + 1 * d.val = d.val; omega

/-- Window 4's block at a point, entry by entry. -/
theorem w4_at (c : Dev nD) (t : Fin (cfgA T ok).N) (n : Fin 160) (hn : n.val = t.val) (h0 : ∀ x, (tb0 T x).toNat < 32) (d : Fin 1024) :
    (iblk T ok m ρ c (4 : Fin 8) t : S1x1x1024.Idx → EReal) (ix3 0 0 d)
      = (m ((c : Thread nD τ).loc main_arg6) : S32x1x1024.Idx → EReal) (ix3 (expert (tb0 T) n) 0 d) := by
  have hb := beHere_at T ok t n hn
  have hx := h0 (ix1 n)
  refine congrArg (m ((c : Thread nD τ).loc main_arg6) : S32x1x1024.Idx → EReal) (funext fun a => Fin.ext ?_)
  match a with
  | ⟨0, _⟩ => show (beHere (crd T ok t) (tb0 T)).toNat * 1 + 1 * 0 = min (tb0 T (ix1 n)).toNat 31; rw [hb]; omega
  | ⟨1, _⟩ => rfl
  | ⟨2, _⟩ => show 0 * 1024 + 1 * d.val = d.val; omega

/-- Window 5's block at a point, entry by entry. -/
theorem w5_at (c : Dev nD) (t : Fin (cfgA T ok).N) (n : Fin 160) (hn : n.val = t.val) (h0 : ∀ x, (tb0 T x).toNat < 32) (d : Fin 1024) (f : Fin 2048) :
    (iblk T ok m ρ c (5 : Fin 8) t : S1x1x1024x2048.Idx → EReal) (ix4 0 0 d f)
      = (m ((c : Thread nD τ).loc main_arg7) : S2x32x1024x2048.Idx → EReal) (ix4 0 (expert (tb0 T) n) d f) := by
  have hb := beHere_at T ok t n hn
  have hx := h0 (ix1 n)
  refine congrArg (m ((c : Thread nD τ).loc main_arg7) : S2x32x1024x2048.Idx → EReal) (funext fun a => Fin.ext ?_)
  match a with
  | ⟨0, _⟩ => rfl
  | ⟨1, _⟩ => show (beHere (crd T ok t) (tb0 T)).toNat * 1 + 1 * 0 = min (tb0 T (ix1 n)).toNat 31; rw [hb]; omega
  | ⟨2, _⟩ => show 0 * 1024 + 1 * d.val = d.val; omega
  | ⟨3, _⟩ => show 0 * 2048 + 1 * f.val = f.val; omega

/-- Window 6's block at a point, entry by entry. -/
theorem w6_at (c : Dev nD) (t : Fin (cfgA T ok).N) (n : Fin 160) (hn : n.val = t.val) (h0 : ∀ x, (tb0 T x).toNat < 32) (f : Fin 2048) :
    (iblk T ok m ρ c (6 : Fin 8) t : S1x1x2048.Idx → EReal) (ix3 0 0 f)
      = (m ((c : Thread nD τ).loc main_arg8) : S32x1x2048.Idx → EReal) (ix3 (expert (tb0 T) n) 0 f) := by
  have hb := beHere_at T ok t n hn
  have hx := h0 (ix1 n)
  refine congrArg (m ((c : Thread nD τ).loc main_arg8) : S32x1x2048.Idx → EReal) (funext fun a => Fin.ext ?_)
  match a with
  | ⟨0, _⟩ => show (beHere (crd T ok t) (tb0 T)).toNat * 1 + 1 * 0 = min (tb0 T (ix1 n)).toNat 31; rw [hb]; omega
  | ⟨1, _⟩ => rfl
  | ⟨2, _⟩ => show 0 * 2048 + 1 * f.val = f.val; omega

/-- The rows' block of a point in use is its own. -/
theorem w0_at (c : Dev nD) (t : Fin (cfgA T ok).N) (n : Fin 160) (hn : n.val = t.val) (hu : (BitVec.ofNat 32 n).slt (tb1 T (ix1 0)) = true)
    (a0 : Fin 2) (a1 : Fin 2048) (a2 : Fin 128) :
    (iblk T ok m ρ c (0 : Fin 8) t : S2x2048x128.Idx → EReal) (ix3 a0 a1 a2)
      = (m ((c : Thread nD τ).loc main_arg2) : S2x327680x128.Idx → EReal) (ix3 a0 ⟨n * 2048 + a1, by omega⟩ a2) := by
  have hv : (crd T ok t 0).val = t.val := crd_val t
  have hm : (Scalar.minsi (BitVec.ofNat 32 (crd T ok t 0).val) (Scalar.subi (nuHere (tb1 T)) 1#32)).toNat = n.val := by
    have e1 : nuHere (tb1 T) = tb1 T (ix1 0) := congrArg (tb1 T) (funext fun a => Fin.ext (by match a with | ⟨0, _⟩ => rfl))
    rw [hv, ← hn, e1]
    have hl := n.isLt
    generalize tb1 T (ix1 0) = w at *
    generalize n.val = v at *
    have hs : v < w.toNat ∧ w.toNat < 2147483648 := by
      rw [BitVec.slt, BitVec.toInt_eq_toNat_cond, BitVec.toInt_eq_toNat_cond, decide_eq_true_eq] at hu
      simp at hu
      have := w.isLt
      split at hu <;> omega
    have hw : (w - 1#32).toNat = w.toNat - 1 := by
      rw [BitVec.toNat_sub]; simp; omega
    have e : Scalar.minsi (BitVec.ofNat 32 v) (Scalar.subi w 1#32) = if (BitVec.ofNat 32 v).slt (w - 1#32) = true then BitVec.ofNat 32 v else w - 1#32 := rfl
    rw [e]
    by_cases hlt : (BitVec.ofNat 32 v).slt (w - 1#32) = true
    · rw [if_pos hlt]; simp; omega
    · rw [if_neg hlt, hw]
      rw [BitVec.slt, BitVec.toInt_eq_toNat_cond, BitVec.toInt_eq_toNat_cond, hw] at hlt
      simp at hlt
      omega
  refine congrArg (m ((c : Thread nD τ).loc main_arg2) : S2x327680x128.Idx → EReal) (funext fun a => Fin.ext ?_)
  match a with
  | ⟨0, _⟩ => show 0 * 2 + 1 * a0.val = a0.val; omega
  | ⟨1, _⟩ =>
    show (Scalar.minsi (BitVec.ofNat 32 (crd T ok t 0).val) (Scalar.subi (nuHere (tb1 T)) 1#32)).toNat * 2048 + 1 * a1.val = n.val * 2048 + a1.val
    rw [hm]; omega
  | ⟨2, _⟩ => show 0 * 128 + 1 * a2.val = a2.val; omega

/-- The result array's entries, from the memory as launched. -/
def RES (c : Dev nD) (i : S2x327680x128.Idx) : EReal :=
  EXP (tb0 T) (tb1 T) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))
    ⟨(i 1).val / 2048, by have h : (i 1).val < 327680 := (i 1).isLt; omega⟩
    ⟨(i 1).val % 2048 / 8, by omega⟩
    ⟨(i 0).val * 1024 + (i 1).val % 8 * 128 + (i 2).val, by have h : (i 0).val < 2 := (i 0).isLt; have h' : (i 2).val < 128 := (i 2).isLt; omega⟩

/-- What a point leaves in its block is the result where the block lies. -/
theorem oblk_at (c : Dev nD) (t : Fin (cfgA T ok).N) (n : Fin 160) (hn : n.val = t.val) (h0 : ∀ x, (tb0 T x).toNat < 32)
    (y0 : Fin 2) (y1 : Fin 2048) (y2 : Fin 128) :
    oblk T ok m ρ c t (ix3 y0 y1 y2) = RES T m c (ix3 y0 ⟨n * 2048 + y1, by omega⟩ y2) := by
  have hv : (crd T ok t 0).val = t.val := crd_val t
  have hq : (n * 2048 + y1.val) / 2048 = n := by omega
  unfold oblk
  rw [bps_at]
  have hu : Used (crd T ok t) (tb1 T) ↔ (BitVec.ofNat 32 n).slt (tb1 T (ix1 0)) = true := by
    rw [used_iff, hv, hn]
  have hR : RES T m c (ix3 y0 ⟨n * 2048 + y1, by omega⟩ y2)
      = EXP (tb0 T) (tb1 T) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8))
        n ⟨y1 / 8, by omega⟩ ⟨y0 * 1024 + y1 % 8 * 128 + y2, by omega⟩ := by
    unfold RES
    congr 1 <;> refine Fin.ext ?_
    · show (n.val * 2048 + y1.val) / 2048 = n.val; omega
    · show (n.val * 2048 + y1.val) % 2048 / 8 = y1.val / 8; omega
    · show y0.val * 1024 + (n.val * 2048 + y1.val) % 8 * 128 + y2.val = y0.val * 1024 + y1.val % 8 * 128 + y2.val; omega
  rw [hR]
  unfold EXP
  by_cases hb : (BitVec.ofNat 32 n).slt (tb1 T (ix1 0)) = true
  · rw [if_pos (hu.mpr hb), if_pos hb]
    have hx : ∀ e, rowAt (iblk T ok m ρ c (0 : Fin 8) t) ⟨y1 / 8, by omega⟩ e = rowOf (m ((c : Thread nD τ).loc main_arg2)) n ⟨y1 / 8, by omega⟩ e :=
      fun e => w0_at T ok m ρ c t n hn hb _ _ _
    rw [funext hx]
    congr 1
    · funext e d; exact w1_at T ok m ρ c t n hn h0 e d
    · funext e d; exact w2_at T ok m ρ c t n hn h0 e d
    · funext d; exact w3_at T ok m ρ c t n hn h0 d
    · funext d; exact w4_at T ok m ρ c t n hn h0 d
    · funext d; exact w5_at T ok m ρ c t n hn h0 d _
    · exact w6_at T ok m ρ c t n hn h0 _
  · rw [if_neg (fun h => hb (hu.mp h)), if_neg hb]

/-- The launch has 160 points. -/
theorem grid_N : grid0.N = 160 := by decide +kernel

/-- The result's block at a point is the one of the point's number. -/
theorem index7 (t : Fin (cfgA T ok).N) : ((cfgA T ok).win (7 : Fin 8)).index t = (![0, t.val, 0] : Fin 3 → ℕ) := by
  have hv : (crd T ok t 0).val = t.val := crd_val t
  have hl : (crd T ok t 0).val < 160 := (crd T ok t 0).isLt
  have e : ((cfgA T ok).win (7 : Fin 8)).index t = (![(0#32 : BitVec 32).toNat, (BitVec.ofNat 32 (crd T ok t 0).val).toNat, (0#32 : BitVec 32).toNat] : Fin 3 → ℕ) := rfl
  have h : (BitVec.ofNat 32 (crd T ok t 0).val).toNat = t.val := by
    rw [BitVec.toNat_ofNat, hv]; omega
  rw [e, h]
  rfl

/-- Every point's block is written back. -/
theorem flush7 (t : Fin (cfgA T ok).N) : ((cfgA T ok).win (7 : Fin 8)).flush t = true := by
  unfold Pipeline.Window.flush
  rw [show ((cfgA T ok).win (7 : Fin 8)).isOut = true from rfl, Bool.true_and, Bool.or_eq_true]
  by_cases h : t.val + 1 = (cfgA T ok).N
  · exact Or.inl (decide_eq_true h)
  · refine Or.inr (decide_eq_true ⟨?_, fun e => ?_⟩)
    · have h1 : t.val < (cfgA T ok).N := t.isLt
      have h2 : t.val + 1 < (cfgA T ok).N := by omega
      exact h2
    · rw [index7, index7] at e
      have e1 : t.val + 1 = t.val := congrFun e (1 : Fin 3)
      omega

/-- The blocks written back make up the array. -/
theorem covers7 : ((cfgA T ok).win (7 : Fin 8)).Covers := by
  refine ⟨fun a => ?_, fun β => ?_⟩
  · match a with
    | ⟨0, _⟩ => show 0 < 2; omega
    | ⟨1, _⟩ => show 0 < 2048; omega
    | ⟨2, _⟩ => show 0 < 128; omega
  · have h1 : (β (1 : Fin 3)).val < 160 := lt_of_lt_of_eq (β (1 : Fin 3)).isLt (show (327680 + 2048 - 1) / 2048 = 160 by decide)
    have h0 : (β (0 : Fin 3)).val < 1 := lt_of_lt_of_eq (β (0 : Fin 3)).isLt (show (2 + 2 - 1) / 2 = 1 by decide)
    have h2 : (β (2 : Fin 3)).val < 1 := lt_of_lt_of_eq (β (2 : Fin 3)).isLt (show (128 + 128 - 1) / 128 = 1 by decide)
    refine ⟨⟨(β (1 : Fin 3)).val, h1.trans_eq grid_N.symm⟩, flush7 T ok _, fun a => ⟨?_, Or.inl ?_⟩⟩
    · rw [index7]
      match a with
      | ⟨0, _⟩ => show 0 = (β (0 : Fin 3)).val; omega
      | ⟨1, _⟩ => rfl
      | ⟨2, _⟩ => show 0 = (β (2 : Fin 3)).val; omega
    · match a with
      | ⟨0, _⟩ => rfl
      | ⟨1, _⟩ => rfl
      | ⟨2, _⟩ => rfl

/-- The result array after the run. -/
theorem final (c : Dev nD) (h0 : ∀ x, (tb0 T x).toNat < 32) :
    (dats T ok m ρ 0 c).arrAt (7 : Fin 8) (cfgA T ok).N = RES T m c := by
  refine (dats T ok m ρ 0 c).arrAt_eq_of_covers (7 : Fin 8) _ (covers7 T ok) fun t _ y => ?_
  have hN : t.val < 160 := lt_of_lt_of_eq t.isLt grid_N
  have key : ∀ y : S2x2048x128.Idx, oblk T ok m ρ c t y = RES T m c ((((cfgA T ok).win (7 : Fin 8)).blk t).view.emb y) := by
    intro y
    idx_vars y
    refine (oblk_at T ok m ρ c t ⟨t.val, hN⟩ rfl h0 y0 y1 y2).trans (congrArg (RES T m c) (funext fun a => Fin.ext ?_))
    have hi := index7 T ok t
    have hi1 : ((cfgA T ok).win (7 : Fin 8)).index t (1 : Fin 3) = t.val := congrFun hi (1 : Fin 3)
    match a with
    | ⟨0, _⟩ => show y0.val = 0 * 2 + 1 * y0.val; omega
    | ⟨1, _⟩ => show t.val * 2048 + y1.val = ((cfgA T ok).win (7 : Fin 8)).index t (1 : Fin 3) * 2048 + 1 * y1.val; rw [hi1]; omega
    | ⟨2, _⟩ => show y2.val = 0 * 128 + 1 * y2.val; omega
  exact key y

end Cert.ExpertsIdeal.Exp

end
-- ==== Proof.ExpIdeal.Ref.lean ====
/- The experts' reference read at an index, and its agreement with the experts' result of the kernel's array. -/
module

public import proofs.«01_k».proof.Proof.Gen.ExpertsReferenceIdeal.Read
public import proofs.«01_k».proof.Proof.ExpIdeal.Array

@[expose] public section

set_option maxRecDepth 16384

noncomputable section

namespace Cert.ExpertsIdeal.Ref

open Idealize.ShloMosaic Idealize.ShloMosaic.TcCoe Idealize.SL.Sem
open Cert.ExpertsReferenceIdeal Cert.ExpertsReferenceIdeal.Gen Cert.ExpertsReferenceIdeal.Read

/-- A take of whole slabs: of 32 slabs the ones named by a column of 160 numbers. -/
abbrev slabs (p q : ℕ) (wf : GatherDims.WF ⟨3, ![32, p, q]⟩ ⟨2, ![160, 1]⟩ ⟨3, ![160, p, q]⟩ [1, 2] [0] [] [0] [] 1 ![1, p, q]) :
    GatherDims ⟨3, ![32, p, q]⟩ ⟨2, ![160, 1]⟩ ⟨3, ![160, p, q]⟩ where
  offsetDims := [1, 2]
  collapsedSliceDims := [0]
  operandBatchingDims := []
  startIndicesBatchingDims := []
  startIndexMap := [0]
  indexVectorDim := 1
  sliceSizes := ![1, p, q]
  wf := wf

/-- A take read at an entry: the entry of the slab named. -/
theorem take_at {α : Type} (p q : ℕ) (wf) (x : (⟨3, ![32, p, q]⟩ : Shape).Idx → α) (idx : IVec ⟨2, ![160, 1]⟩ 32) (n : Fin 160) (a : Fin p) (b : Fin q)
    (h : (idx (ix2 n 0)).toNat < 32) :
    Host.gather (slabs p q wf) x idx (ix3 n a b) = x (ix3 ⟨min (idx (ix2 n 0)).toNat 31, by omega⟩ a b) := by
  unfold Host.gather
  refine congrArg x (funext fun k => Fin.ext ?_)
  show (slabs p q wf).start (ix3 n a b) idx k + (slabs p q wf).batchCoord (ix3 n a b) k + (slabs p q wf).offCoord (ix3 n a b) k = _
  rw [GatherDims.batchCoord_eq_zero _ _ _ List.not_mem_nil, Nat.add_zero]
  have hk : k = (0 : Fin 3) ∨ k = (1 : Fin 3) ∨ k = (2 : Fin 3) := by
    match k with
    | ⟨0, _⟩ => exact Or.inl rfl
    | ⟨1, _⟩ => exact Or.inr (Or.inl rfl)
    | ⟨2, _⟩ => exact Or.inr (Or.inr rfl)
  have n1 : (1 : Fin 3) ∉ (slabs p q wf).startIndexMap := fun h => absurd (congrArg Fin.val (List.mem_singleton.mp h)) (show ¬ ((1 : ℕ) = 0) by decide)
  have n2 : (2 : Fin 3) ∉ (slabs p q wf).startIndexMap := fun h => absurd (congrArg Fin.val (List.mem_singleton.mp h)) (show ¬ ((2 : ℕ) = 0) by decide)
  have c1 : (1 : Fin 3) ∉ (slabs p q wf).collapsedSliceDims := fun h => absurd (congrArg Fin.val (List.mem_singleton.mp h)) (show ¬ ((1 : ℕ) = 0) by decide)
  have c2 : (2 : Fin 3) ∉ (slabs p q wf).collapsedSliceDims := fun h => absurd (congrArg Fin.val (List.mem_singleton.mp h)) (show ¬ ((2 : ℕ) = 0) by decide)
  rcases hk with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (slabs p q wf).startIndexMap from List.mem_singleton.mpr rfl)]
    have hsi : (slabs p q wf).siIdx (ix3 n a b) ⟨List.idxOf (0 : Fin 3) (slabs p q wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    show min (idx (ix2 n 0)).toInt.toNat (32 - 1) = min (idx (ix2 n 0)).toNat 31
    rw [BitVec.toInt_eq_toNat_cond]
    split <;> omega
  · unfold GatherDims.start GatherDims.offCoord
    rw [dif_neg n1, dif_pos ((GatherDims.mem_sKept _ _).mpr ⟨c1, List.not_mem_nil⟩), Nat.zero_add]
    rfl
  · unfold GatherDims.start GatherDims.offCoord
    rw [dif_neg n2, dif_pos ((GatherDims.mem_sKept _ _).mpr ⟨c2, List.not_mem_nil⟩), Nat.zero_add]
    rfl

section
variable (be : IVec S160 32) (nu : IVec S1 32) (xs : FVec Ideal S2x327680x128 .f32) (wg wl : FVec Ideal S32x2048x1024 .bf16)
  (bg bl : FVec Ideal S32x1x1024 .f32) (w2 : FVec Ideal S2x32x1024x2048 .f32) (b2 : FVec Ideal S32x1x2048 .f32)

/-- The column of named experts, read at a block. -/
theorem col_at (n : Fin 160) : val_main_call0_v0 (F := Ideal) be (ix2 n 0) = be (ix1 n) := by
  rw [val_main_call0_v0_apply]
  exact congrArg be (funext fun a => Fin.ext (by match a with | ⟨0, _⟩ => rfl))

/-- A take by the named experts. -/
theorem slab_at {α : Type} (p q : ℕ) (wf) (x : (⟨3, ![32, p, q]⟩ : Shape).Idx → α) (h0 : ∀ x, (be x).toNat < 32) (n : Fin 160) (a : Fin p) (b : Fin q) :
    Host.gather (slabs p q wf) x (val_main_call0_v0 (F := Ideal) be) (ix3 n a b) = x (ix3 (Exp.expert be n) a b) := by
  have e := col_at be n
  refine (take_at p q wf x _ n a b (by rw [e]; exact h0 _)).trans (congrArg (fun k => x (ix3 k a b)) (Fin.ext ?_))
  show min (val_main_call0_v0 (F := Ideal) be (ix2 n 0)).toNat 31 = min (be (ix1 n)).toNat 31
  rw [e]

variable (h0 : ∀ x, (be x).toNat < 32)
include h0

/-- The experts' parameters as the reference takes them for a block. -/
theorem v3_at (n : Fin 160) (e : Fin 2048) (d : Fin 1024) :
    val_main_v3 (F := Ideal) be wg (ix3 n e d) = wg (ix3 (Exp.expert be n) e d) := slab_at be 2048 1024 _ wg h0 n e d
theorem v9_at (n : Fin 160) (e : Fin 2048) (d : Fin 1024) :
    val_main_v9 (F := Ideal) be wl (ix3 n e d) = wl (ix3 (Exp.expert be n) e d) := slab_at be 2048 1024 _ wl h0 n e d
theorem v6_at (n : Fin 160) (d : Fin 1024) :
    val_main_v6 (F := Ideal) be bg (ix3 n 0 d) = bg (ix3 (Exp.expert be n) 0 d) := slab_at be 1 1024 _ bg h0 n 0 d
theorem v12_at (n : Fin 160) (d : Fin 1024) :
    val_main_v12 (F := Ideal) be bl (ix3 n 0 d) = bl (ix3 (Exp.expert be n) 0 d) := slab_at be 1 1024 _ bl h0 n 0 d
theorem v34_at (n : Fin 160) (f : Fin 2048) :
    val_main_v34 (F := Ideal) be b2 (ix3 n 0 f) = b2 (ix3 (Exp.expert be n) 0 f) := slab_at be 1 2048 _ b2 h0 n 0 f
theorem v32_at (n : Fin 160) (d : Fin 1024) (f : Fin 2048) :
    val_main_v32 (F := Ideal) be w2 (ix3 n d f) = w2 (ix4 0 (Exp.expert be n) d f) := by
  refine (slab_at be 1024 2048 _ (val_main_v31 (F := Ideal) w2) h0 n d f).trans ?_
  pointwise [val_main_v31, val_main_v30]
  try blk_point []

omit h0 in
/-- The rows of a block as the reference lays them out. -/
theorem v2_at (n : Fin 160) (r : Fin 256) (e : Fin 2048) :
    val_main_v2 (F := Ideal) xs (ix3 n r e) = Exp.rowOf xs n r e := by
  have a1 : val_main_v2 (F := Ideal) xs (ix3 n r e)
      = val_main_v1 (F := Ideal) xs (ix5 n r ⟨e / 1024, by omega⟩ ⟨e % 1024 / 128, by omega⟩ ⟨e % 128, by omega⟩) := by
    rw [val_main_v2_apply]
    refine congrArg _ (funext fun a => Fin.ext ?_)
    match a with
    | ⟨0, _⟩ => show ((n.val * 256 + r.val) * 2048 + e.val) / 524288 = n.val; omega
    | ⟨1, _⟩ => show ((n.val * 256 + r.val) * 2048 + e.val) / 2048 % 256 = r.val; omega
    | ⟨2, _⟩ => show ((n.val * 256 + r.val) * 2048 + e.val) / 1024 % 2 = e.val / 1024; omega
    | ⟨3, _⟩ => show ((n.val * 256 + r.val) * 2048 + e.val) / 128 % 8 = e.val % 1024 / 128; omega
    | ⟨4, _⟩ => show ((n.val * 256 + r.val) * 2048 + e.val) % 128 = e.val % 128; omega
  have a2 : val_main_v1 (F := Ideal) xs (ix5 n r ⟨e / 1024, by omega⟩ ⟨e % 1024 / 128, by omega⟩ ⟨e % 128, by omega⟩)
      = val_main_v0 (F := Ideal) xs (ix5 ⟨e / 1024, by omega⟩ n r ⟨e % 1024 / 128, by omega⟩ ⟨e % 128, by omega⟩) := by
    rw [val_main_v1_apply]
    refine congrArg _ (funext fun a => Fin.ext ?_)
    match a with
    | ⟨0, _⟩ => rfl
    | ⟨1, _⟩ => rfl
    | ⟨2, _⟩ => rfl
    | ⟨3, _⟩ => rfl
    | ⟨4, _⟩ => rfl
  rw [a1, a2, val_main_v0_apply]
  unfold Exp.rowOf
  refine congrArg xs (funext fun a => Fin.ext ?_)
  match a with
  | ⟨0, _⟩ => show ((((e.val / 1024 * 160 + n.val) * 256 + r.val) * 8 + e.val % 1024 / 128) * 128 + e.val % 128) / 41943040 = e.val / 1024; omega
  | ⟨1, _⟩ => show ((((e.val / 1024 * 160 + n.val) * 256 + r.val) * 8 + e.val % 1024 / 128) * 128 + e.val % 128) / 128 % 327680 = n.val * 2048 + (r.val * 8 + e.val % 1024 / 128); omega
  | ⟨2, _⟩ => show ((((e.val / 1024 * 160 + n.val) * 256 + r.val) * 8 + e.val % 1024 / 128) * 128 + e.val % 128) % 128 = e.val % 128; omega

/-- The reference's clipped gate; -/
theorem v16_at (n : Fin 160) (r : Fin 256) (d : Fin 1024) :
    val_main_v16 (F := Ideal) be xs wg bg (ix3 n r d)
      = Exp.gateAt (Exp.rowOf xs n r) (fun e => wg (ix3 (Exp.expert be n) e d)) (bg (ix3 (Exp.expert be n) 0 d)) := by
  unfold Exp.gateAt val_main_v16 val_main_v15 val_main_cst val_main_v8 val_main_v7 val_main_v5 val_main_v4
  simp_rw [← v2_at xs n r, ← v3_at be wg h0 n, ← v6_at be bg h0 n]
  generalize val_main_v2 (F := Ideal) xs = X
  generalize val_main_v3 (F := Ideal) be wg = W
  generalize val_main_v6 (F := Ideal) be bg = B
  pointwise

/-- its clipped linear half; -/
theorem v17_at (n : Fin 160) (r : Fin 256) (d : Fin 1024) :
    val_main_v17 (F := Ideal) be xs wl bl (ix3 n r d)
      = min (Ideal.ofBits .f32 0x40E00000#32)
          (Exp.linAt (Exp.rowOf xs n r) (fun e => wl (ix3 (Exp.expert be n) e d)) (bl (ix3 (Exp.expert be n) 0 d))) := by
  unfold Exp.linAt val_main_v17 val_main_call4_v4 val_main_call4_v3 val_main_cst_1 val_main_call4_v2 val_main_call4_v1 val_main_call4_v0 val_main_cst_0 val_main_v14 val_main_v13 val_main_v11 val_main_v10
  simp_rw [← v2_at xs n r, ← v9_at be wl h0 n, ← v12_at be bl h0 n]
  generalize val_main_v2 (F := Ideal) xs = X
  generalize val_main_v9 (F := Ideal) be wl = W
  generalize val_main_v12 (F := Ideal) be bl = B
  pointwise
  rfl

omit h0 in
/-- its activation. -/
theorem v29_at (n : Fin 160) (r : Fin 256) (d : Fin 1024) (l : EReal)
    (hl : val_main_v17 (F := Ideal) be xs wl bl (ix3 n r d) = min (Ideal.ofBits .f32 0x40E00000#32) l) :
    val_main_v29 (F := Ideal) be xs wg wl bg bl (ix3 n r d) = Exp.actAt (val_main_v16 (F := Ideal) be xs wg bg (ix3 n r d)) l := by
  unfold Exp.actAt
  rw [← hl]
  unfold val_main_v29 val_main_v28 val_main_v27 val_main_cst_5 val_main_v26 val_main_v25 val_main_v24 val_main_cst_4 val_main_v23 val_main_v22 val_main_cst_3 val_main_v21 val_main_v20 val_main_v19 val_main_v18 val_main_cst_2
  generalize val_main_v16 (F := Ideal) be xs wg bg = G
  generalize val_main_v17 (F := Ideal) be xs wl bl = L
  pointwise
  try rfl

/-- The reference's answer for a row, before the blocks past the count are zeroed. -/
theorem v36_at (n : Fin 160) (r : Fin 256) (f : Fin 2048) :
    val_main_v36 (F := Ideal) be xs wg wl bg bl w2 b2 (ix3 n r f)
      = Exp.answer (Exp.rowOf xs n r) (fun e d => wg (ix3 (Exp.expert be n) e d)) (fun e d => wl (ix3 (Exp.expert be n) e d))
          (fun d => bg (ix3 (Exp.expert be n) 0 d)) (fun d => bl (ix3 (Exp.expert be n) 0 d))
          (fun d => w2 (ix4 0 (Exp.expert be n) d f)) (b2 (ix3 (Exp.expert be n) 0 f)) := by
  unfold Exp.answer
  simp_rw [← v16_at be xs wg bg h0 n r, ← v29_at be xs wg wl bg bl n r _ _ (v17_at be xs wl bl h0 n r _), ← v32_at be w2 h0 n, ← v34_at be b2 h0 n]
  unfold val_main_v36 val_main_v35 val_main_v33
  generalize val_main_v29 (F := Ideal) be xs wg wl bg bl = X
  generalize val_main_v32 (F := Ideal) be w2 = W
  generalize val_main_v34 (F := Ideal) be b2 = B
  pointwise

/-- The reference's rows: the answer where the block is in use, zero past the count. -/
theorem v42_at (n : Fin 160) (r : Fin 256) (f : Fin 2048) :
    val_main_v42 (F := Ideal) be nu xs wg wl bg bl w2 b2 (ix3 n r f) = Exp.EXP be nu xs wg wl bg bl w2 b2 n r f := by
  unfold Exp.EXP
  rw [← v36_at be xs wg wl bg bl w2 b2 h0 n r f]
  unfold val_main_v42 val_main_call7_v2 val_main_call7_v1 val_main_call7_v0 val_main_cst_6 val_main_v41 val_main_v40 val_main_v39 val_main_v38 val_main_v37
  generalize val_main_v36 (F := Ideal) be xs wg wl bg bl w2 b2 = Y
  pointwise
  have z : (id (constant (F := Ideal) S_ FTy.f32 0#32) Idealize.ShloMosaic.ix0 : EReal) = 0 := Ideal.ofBits_zero .f32
  rw [z]
  unfold Scalar.select IntOp.cmpi
  rcases hb : (BitVec.ofNat 32 n.val).slt (nu (ix1 0)) with _ | _
  · simp [hb]
  · simp [hb]

omit h0 in
/-- The reference's result laid out as the kernel's. -/
theorem v45_at (h : Fin 2) (R : Fin 327680) (l : Fin 128) :
    val_main_v45 (F := Ideal) be nu xs wg wl bg bl w2 b2 (ix3 h R l)
      = val_main_v42 (F := Ideal) be nu xs wg wl bg bl w2 b2 (ix3 ⟨R / 2048, by omega⟩ ⟨R % 2048 / 8, by omega⟩ ⟨h * 1024 + R % 8 * 128 + l, by omega⟩) := by
  have a1 : val_main_v45 (F := Ideal) be nu xs wg wl bg bl w2 b2 (ix3 h R l)
      = val_main_v44 (F := Ideal) be nu xs wg wl bg bl w2 b2 (ix5 h ⟨R / 2048, by omega⟩ ⟨R % 2048 / 8, by omega⟩ ⟨R % 8, by omega⟩ l) := by
    rw [val_main_v45_apply]
    refine congrArg _ (funext fun a => Fin.ext ?_)
    match a with
    | ⟨0, _⟩ => show ((h.val * 327680 + R.val) * 128 + l.val) / 41943040 = h.val; omega
    | ⟨1, _⟩ => show ((h.val * 327680 + R.val) * 128 + l.val) / 262144 % 160 = R.val / 2048; omega
    | ⟨2, _⟩ => show ((h.val * 327680 + R.val) * 128 + l.val) / 1024 % 256 = R.val % 2048 / 8; omega
    | ⟨3, _⟩ => show ((h.val * 327680 + R.val) * 128 + l.val) / 128 % 8 = R.val % 8; omega
    | ⟨4, _⟩ => show ((h.val * 327680 + R.val) * 128 + l.val) % 128 = l.val; omega
  have a2 : val_main_v44 (F := Ideal) be nu xs wg wl bg bl w2 b2 (ix5 h ⟨R / 2048, by omega⟩ ⟨R % 2048 / 8, by omega⟩ ⟨R % 8, by omega⟩ l)
      = val_main_v43 (F := Ideal) be nu xs wg wl bg bl w2 b2 (ix5 ⟨R / 2048, by omega⟩ ⟨R % 2048 / 8, by omega⟩ h ⟨R % 8, by omega⟩ l) := by
    rw [val_main_v44_apply]
    refine congrArg _ (funext fun a => Fin.ext ?_)
    match a with
    | ⟨0, _⟩ => rfl
    | ⟨1, _⟩ => rfl
    | ⟨2, _⟩ => rfl
    | ⟨3, _⟩ => rfl
    | ⟨4, _⟩ => rfl
  rw [a1, a2, val_main_v43_apply]
  refine congrArg _ (funext fun a => Fin.ext ?_)
  match a with
  | ⟨0, _⟩ => show ((((R.val / 2048 * 256 + R.val % 2048 / 8) * 2 + h.val) * 8 + R.val % 8) * 128 + l.val) / 524288 = R.val / 2048; omega
  | ⟨1, _⟩ => show ((((R.val / 2048 * 256 + R.val % 2048 / 8) * 2 + h.val) * 8 + R.val % 8) * 128 + l.val) / 2048 % 256 = R.val % 2048 / 8; omega
  | ⟨2, _⟩ => show ((((R.val / 2048 * 256 + R.val % 2048 / 8) * 2 + h.val) * 8 + R.val % 8) * 128 + l.val) % 2048 = h.val * 1024 + R.val % 8 * 128 + l.val; omega

/-- What the kernel leaves is what the reference computes. -/
theorem same (i : S2x327680x128.Idx) :
    Exp.EXP be nu xs wg wl bg bl w2 b2 ⟨(i 1).val / 2048, by have : (i 1).val < 327680 := (i 1).isLt; omega⟩
        ⟨(i 1).val % 2048 / 8, by omega⟩
        ⟨(i 0).val * 1024 + (i 1).val % 8 * 128 + (i 2).val, by have : (i 0).val < 2 := (i 0).isLt; have : (i 2).val < 128 := (i 2).isLt; omega⟩
      = val_main_v45 (F := Ideal) be nu xs wg wl bg bl w2 b2 i := by
  idx_vars i
  exact ((v45_at be nu xs wg wl bg bl w2 b2 _ _ _).trans (v42_at be nu xs wg wl bg bl w2 b2 h0 _ _ _)).symm

end

/-- The same of the memory a launch starts from. -/
theorem res_eq (m : (ℓ : Loc Cert.ExpertsIdeal.nD τ Cert.ExpertsIdeal.sig) → Buf (Elt Ideal) ℓ) (c : Dev Cert.ExpertsIdeal.nD)
    (h0 : ∀ x, (Exp.tb0 (Exp.tabs m) x).toNat < 32) :
    Exp.RES (Exp.tabs m) m c
      = val_main_v45 (F := Ideal) (Exp.tb0 (Exp.tabs m)) (Exp.tb1 (Exp.tabs m))
          (m ((c : Thread Cert.ExpertsIdeal.nD τ).loc Cert.ExpertsIdeal.main_arg2)) (m ((c : Thread Cert.ExpertsIdeal.nD τ).loc Cert.ExpertsIdeal.main_arg3))
          (m ((c : Thread Cert.ExpertsIdeal.nD τ).loc Cert.ExpertsIdeal.main_arg4)) (m ((c : Thread Cert.ExpertsIdeal.nD τ).loc Cert.ExpertsIdeal.main_arg5))
          (m ((c : Thread Cert.ExpertsIdeal.nD τ).loc Cert.ExpertsIdeal.main_arg6)) (m ((c : Thread Cert.ExpertsIdeal.nD τ).loc Cert.ExpertsIdeal.main_arg7))
          (m ((c : Thread Cert.ExpertsIdeal.nD τ).loc Cert.ExpertsIdeal.main_arg8)) :=
  funext fun i => same _ _ _ _ _ _ _ _ _ h0 i

end Cert.ExpertsIdeal.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_qk_finite
public import proofs.«01_k».proof.Proof.Att.Ref
public import proofs.«01_k».proof.Proof.Gen.Experts
public import proofs.«01_k».proof.Proof.Gen.ExpertsIdeal
public import proofs.«01_k».proof.Proof.Gen.ExpertsReferenceIdeal
public import proofs.«01_k».proof.Proof.Gen.ExpertsReferenceIdeal.Run
public import proofs.«01_k».proof.Proof.Gen.ExpertsReferenceIdeal.Read
public import proofs.«01_k».proof.Proof.Gen.Pre_tables_named
public import proofs.«01_k».proof.Proof.Gen.ConvIn
public import proofs.«01_k».proof.Proof.Gen.ConvIn.Frame
public import proofs.«01_k».proof.Proof.Gen.ConvInIdeal
public import proofs.«01_k».proof.Proof.Gen.ConvInIdeal.Frame
public import proofs.«01_k».proof.Proof.Gen.ConvInReferenceIdeal
public import proofs.«01_k».proof.Proof.Gen.ConvInReferenceIdeal.Run
public import proofs.«01_k».proof.Proof.Gen.ConvInReferenceIdeal.Read
public import proofs.«01_k».proof.Proof.ConvIn.Ref
public import proofs.«01_k».proof.Proof.ExpBits.Tables
public import proofs.«01_k».proof.Proof.ExpIdeal.Tables
public import proofs.«01_k».proof.Proof.ExpIdeal.Ref
public import Idealize.ShloMosaic.Adequacy
public import Idealize.ShloMosaic.Lib.Quiescent
public import Idealize.ShloMosaic.Init

@[expose] public section

noncomputable section

-- The claims about every program here also say that every semaphore counter ends at zero; the proof must show that too.

namespace Cert.Proof

open Idealize.ShloMosaic Idealize.SL.Sem Cert.Kernel

theorem claim : Cert.Claim := ⟨Cert.Kernel.Gen.facts, Cert.KernelIdeal.Gen.facts, Cert.ReferenceIdeal.Gen.facts, Cert.Experts.Gen.facts, Cert.ExpertsIdeal.Gen.facts,
  Cert.ExpertsReferenceIdeal.Gen.facts, Cert.ConvIn.Gen.facts, Cert.ConvInIdeal.Gen.facts, Cert.ConvInReferenceIdeal.Gen.facts,
  Cert.Pre_qk_finite.Gen.facts, Cert.Pre_tables_named.Gen.facts,
  fun m ρ _ => Cert.Kernel.Gen.frame m ρ, fun m ρ _ => Cert.KernelIdeal.Gen.frame m ρ, fun m ρ _ => Cert.KernelIdeal.Gen.frame m ρ,
  by
    intro m ρ _
    run_from Cert.ReferenceIdeal.Value.run m ρ
    · exact fun _ => ⟨trivial, trivial, trivial⟩
    · exact sem_eq_zero_of_no_sems (sig := Cert.ReferenceIdeal.sig) (by decide) _,
  by
    intro m ρ _
    run_from Cert.ReferenceIdeal.Value.run m ρ
    · exact fun _ => ⟨trivial, trivial, trivial⟩
    · exact sem_eq_zero_of_no_sems (sig := Cert.ReferenceIdeal.sig) (by decide) _,
  fun m ρ h => Cert.Experts.Exp.frame_of_pre m ρ h, fun m ρ h => Cert.ExpertsIdeal.Exp.frame_of_pre m ρ h,
  by
    intro m ρ _
    run_from Cert.ExpertsReferenceIdeal.Value.run m ρ
    · exact fun _ => ⟨trivial, trivial, trivial, trivial, trivial, trivial, trivial, trivial, trivial⟩
    · exact sem_eq_zero_of_no_sems (sig := Cert.ExpertsReferenceIdeal.sig) (by decide) _,
  by
    intro m ρ _
    run_from Cert.ExpertsReferenceIdeal.Value.run m ρ
    · exact fun _ => ⟨trivial, trivial, trivial, trivial, trivial, trivial, trivial, trivial, trivial⟩
    · exact sem_eq_zero_of_no_sems (sig := Cert.ExpertsReferenceIdeal.sig) (by decide) _,
  fun m ρ _ => Cert.ConvIn.Gen.frame m ρ, fun m ρ _ => Cert.ConvInIdeal.Gen.frame m ρ,
  by
    intro m ρ _
    run_from Cert.ConvInReferenceIdeal.Value.run m ρ
    · exact fun _ => ⟨trivial, trivial, trivial, trivial, trivial, trivial⟩
    · exact sem_eq_zero_of_no_sems (sig := Cert.ConvInReferenceIdeal.sig) (by decide) _,
  trivial,
  by
    pair_intro
    · run_from Cert.KernelIdeal.Gen.run_main m g
    · run_from Cert.ReferenceIdeal.Value.run m' g'
      obtain ⟨hQ, hK⟩ := Cert.Att.finite_of_pre _ _ _ (hpre c)
      rw [Cert.Att.final m c]
      refine (Cert.ReferenceIdeal.Read.val_main_v22_eq (F := Ideal) _ _ _).trans (funext fun i => ?_)
      idx_vars i
      exact (Cert.Att.att_eq_ref _ _ _ hQ hK i0 i1 i2).symm,
  trivial,
  by
    intro m g m' g' hpre hagree
    have hT := Cert.ExpertsIdeal.Exp.at_tabs m
    have h0 := (Cert.ExpertsIdeal.Exp.tabs_named m hpre).1
    refine ⟨fun c => Cert.ExpertsReferenceIdeal.Read.val_main_v45 (F := Ideal) (m ((c.tc : Thread _ _).loc Cert.ExpertsIdeal.main_arg0))
      (m ((c.tc : Thread _ _).loc Cert.ExpertsIdeal.main_arg1)) (m ((c.tc : Thread _ _).loc Cert.ExpertsIdeal.main_arg2))
      (m ((c.tc : Thread _ _).loc Cert.ExpertsIdeal.main_arg3)) (m ((c.tc : Thread _ _).loc Cert.ExpertsIdeal.main_arg4))
      (m ((c.tc : Thread _ _).loc Cert.ExpertsIdeal.main_arg5)) (m ((c.tc : Thread _ _).loc Cert.ExpertsIdeal.main_arg6))
      (m ((c.tc : Thread _ _).loc Cert.ExpertsIdeal.main_arg7)) (m ((c.tc : Thread _ _).loc Cert.ExpertsIdeal.main_arg8)), ?_, ?_⟩
    · run_from Cert.ExpertsIdeal.Exp.run_main (Cert.ExpertsIdeal.Exp.tabs m) (Cert.ExpertsIdeal.Exp.ok_tabs m hpre) m g hT
      · rw [hT.1 c, hT.2 c]
        exact (Cert.ExpertsIdeal.Exp.final _ _ m g c h0).trans (Cert.ExpertsIdeal.Ref.res_eq m c h0)
      · exact (hc.2 0).trans (hT.1 c).symm
      · exact (hc.2 1).trans (hT.2 c).symm
    · run_from Cert.ExpertsReferenceIdeal.Value.run m' g'
      obtain ⟨e0, e1, e2, e3, e4, e5, e6, e7, e8⟩ := hagree c
      refine (Cert.ExpertsReferenceIdeal.Read.val_main_v45_eq (F := Ideal) m' c).trans ?_
      rw [e0, e1, e2, e3, e4, e5, e6, e7, e8],
  trivial,
  by
    pair_intro
    · run_from Cert.ConvInIdeal.Gen.run_main m g
    · run_from Cert.ConvInReferenceIdeal.Value.run m' g'
      obtain ⟨e0, e1, e2, e3, e4, e5⟩ := hagree c
      rw [Cert.ConvInIdeal.Val.final m c]
      refine (Cert.ConvInReferenceIdeal.Read.val_main_v37_eq (F := Ideal) m' c).trans (funext fun i => ?_)
      rw [e0, e1, e2, e3, e4, e5]
      exact (Cert.ConvInIdeal.Ref.same _ _ _ _ _ _ i).symm⟩

end Cert.Proof

end
